-- ==== Defs.lean ====
def Pre_Kernel [hPre_blocks_in_range : Cert.Pre_blocks_in_range.Facts] (m : (ℓ : Loc Cert.Kernel.nD Cert.Kernel.τ Cert.Kernel.sig) → Buf (Elt Bits) ℓ) : Prop :=
  ∀ c : Dev Cert.Kernel.nD,
    (Cert.Pre_blocks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_blocks_in_range : Cert.Pre_blocks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_scores_in_range [hPre_finite_scores_in_range : Cert.Pre_finite_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_in_range [hPre_finite_scores_in_range : Cert.Pre_finite_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_blocks_in_range : Cert.Pre_blocks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_blocks_in_range : Cert.Pre_blocks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_in_range [hKernelIdeal : Cert.KernelIdeal.Facts] [hPre_finite_scores_in_range : Cert.Pre_finite_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_in_range [hReferenceIdeal : Cert.ReferenceIdeal.Facts] [hPre_finite_scores_in_range : Cert.Pre_finite_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scores_in_range [hKernelIdeal : Cert.KernelIdeal.Facts] [hReferenceIdeal : Cert.ReferenceIdeal.Facts] [hPre_finite_scores_in_range : Cert.Pre_finite_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_blocks_in_range : Cert.Pre_blocks_in_range.Facts) (hPre_finite_scores_in_range : Cert.Pre_finite_scores_in_range.Facts),
    quiescent_Kernel (hKernel := hKernel) (hPre_blocks_in_range := hPre_blocks_in_range)
    ∧ quiescent_KernelIdeal (hKernelIdeal := hKernelIdeal) (hPre_blocks_in_range := hPre_blocks_in_range)
    ∧ quiescent_KernelIdeal_pre_finite_scores_in_range (hKernelIdeal := hKernelIdeal) (hPre_finite_scores_in_range := hPre_finite_scores_in_range)
    ∧ quiescent_ReferenceIdeal (hReferenceIdeal := hReferenceIdeal)
    ∧ quiescent_ReferenceIdeal_pre_finite_scores_in_range (hReferenceIdeal := hReferenceIdeal) (hPre_finite_scores_in_range := hPre_finite_scores_in_range)
    ∧ preserves_Kernel_KernelIdeal
    ∧ algebraic_KernelIdeal_ReferenceIdeal_pre_finite_scores_in_range (hKernelIdeal := hKernelIdeal) (hReferenceIdeal := hReferenceIdeal) (hPre_finite_scores_in_range := hPre_finite_scores_in_range)
-- ==== Pre_blocks_in_range.lean ====
abbrev S1x12x4096x64 : Shape := ⟨4, ![1, 12, 4096, 64]⟩
abbrev S12x64x3 : Shape := ⟨3, ![12, 64, 3]⟩
abbrev S_ : Shape := ⟨0, ![]⟩

class Facts : Prop where
  bcast_S_S12x64x3 : S_.BroadcastsInDim S12x64x3 (![] : Fin 0 → Fin S12x64x3.rank)

variable [Facts]

def fn {F : FTy → Type} [FloatOps F] (main_arg0 : FVec F S1x12x4096x64 .f32) (main_arg1 : FVec F S1x12x4096x64 .f32) (main_arg2 : FVec F S1x12x4096x64 .f32) (main_arg3 : IVec S12x64x3 32) : IVec S12x64x3 1 :=
  let main_c : IVec S_ 32 := constantI S_ 32 0#32
  let main_v0 : IVec S12x64x3 32 := broadcastInDim S12x64x3 ![] bcast_S_S12x64x3 main_c
  let main_v1 : IVec S12x64x3 1 := cmpi .sge main_arg3 main_v0
  let main_c_0 : IVec S_ 32 := constantI S_ 32 64#32
  let main_v2 : IVec S12x64x3 32 := broadcastInDim S12x64x3 ![] bcast_S_S12x64x3 main_c_0
  let main_v3 : IVec S12x64x3 1 := cmpi .slt main_arg3 main_v2
  let main_v4 : IVec S12x64x3 1 := andi main_v1 main_v3
  main_v4
-- ==== Pre_finite_scores_in_range.lean ====
abbrev S1x12x4096x64 : Shape := ⟨4, ![1, 12, 4096, 64]⟩
abbrev S12x64x3 : Shape := ⟨3, ![12, 64, 3]⟩
abbrev S_ : Shape := ⟨0, ![]⟩

class Facts : Prop where
  bcast_S_S1x12x4096x64 : S_.BroadcastsInDim S1x12x4096x64 (![] : Fin 0 → Fin S1x12x4096x64.rank)
  reducesTo_S1x12x4096x64_S_d0_1_2_3 : S1x12x4096x64.ReducesTo [0, 1, 2, 3] S_
  h_S_ : 0 < S_.numel
  bcast_S_S12x64x3 : S_.BroadcastsInDim S12x64x3 (![] : Fin 0 → Fin S12x64x3.rank)

variable [Facts]

def fn {F : FTy → Type} [FloatOps F] (main_arg0 : FVec F S1x12x4096x64 .f32) (main_arg1 : FVec F S1x12x4096x64 .f32) (main_arg2 : FVec F S1x12x4096x64 .f32) (main_arg3 : IVec S12x64x3 32) : IVec S12x64x3 1 :=
  let main_v0 : FVec F S1x12x4096x64 .f32 := Host.absf main_arg0
  let main_cst : FVec F S_ .f32 := constant S_ .f32 0x7F800000#32
  let main_v1 : FVec F S1x12x4096x64 .f32 := broadcastInDim S1x12x4096x64 ![] bcast_S_S1x12x4096x64 main_cst
  let main_v2 : IVec S1x12x4096x64 1 := cmpf .olt main_v0 main_v1
  let main_c : IVec S_ 1 := constantI S_ 1 1#1
  let main_v3 : IVec S_ 1 := (fun x v => Host.reduce IntOp.andi x v reducesTo_S1x12x4096x64_S_d0_1_2_3 h_S_) main_v2 main_c
  let main_v4 : FVec F S1x12x4096x64 .f32 := Host.absf main_arg1
  let main_cst_0 : FVec F S_ .f32 := constant S_ .f32 0x7F800000#32
  let main_v5 : FVec F S1x12x4096x64 .f32 := broadcastInDim S1x12x4096x64 ![] bcast_S_S1x12x4096x64 main_cst_0
  let main_v6 : IVec S1x12x4096x64 1 := cmpf .olt main_v4 main_v5
  let main_c_1 : IVec S_ 1 := constantI S_ 1 1#1
  let main_v7 : IVec S_ 1 := (fun x v => Host.reduce IntOp.andi x v reducesTo_S1x12x4096x64_S_d0_1_2_3 h_S_) main_v6 main_c_1
  let main_v8 : IVec S_ 1 := andi main_v3 main_v7
  let main_c_2 : IVec S_ 32 := constantI S_ 32 0#32
  let main_v9 : IVec S12x64x3 32 := broadcastInDim S12x64x3 ![] bcast_S_S12x64x3 main_c_2
  let main_v10 : IVec S12x64x3 1 := cmpi .sge main_arg3 main_v9
  let main_c_3 : IVec S_ 32 := constantI S_ 32 64#32
  let main_v11 : IVec S12x64x3 32 := broadcastInDim S12x64x3 ![] bcast_S_S12x64x3 main_c_3
  let main_v12 : IVec S12x64x3 1 := cmpi .slt main_arg3 main_v11
  let main_v13 : IVec S12x64x3 1 := andi main_v10 main_v12
  let main_v14 : IVec S12x64x3 1 := broadcastInDim S12x64x3 ![] bcast_S_S12x64x3 main_v8
  let main_v15 : IVec S12x64x3 1 := andi main_v13 main_v14
  main_v15
-- ==== Kernel.lean ====
abbrev S1x12x4096x64 : Shape := ⟨4, ![1, 12, 4096, 64]⟩
abbrev S12x64x3 : Shape := ⟨3, ![12, 64, 3]⟩
abbrev S2 : Shape := ⟨1, ![2]⟩
abbrev S12x4096x64 : Shape := ⟨3, ![12, 4096, 64]⟩
abbrev S_ : Shape := ⟨0, ![]⟩
abbrev S64 : Shape := ⟨1, ![64]⟩
abbrev S64x1 : Shape := ⟨2, ![64, 1]⟩
abbrev S64x3 : Shape := ⟨2, ![64, 3]⟩
abbrev S64x2 : Shape := ⟨2, ![64, 2]⟩
abbrev S64x5 : Shape := ⟨2, ![64, 5]⟩
abbrev S1x64x5 : Shape := ⟨3, ![1, 64, 5]⟩
abbrev S12x64x5 : Shape := ⟨3, ![12, 64, 5]⟩
abbrev S12x64x8 : Shape := ⟨3, ![12, 64, 8]⟩
abbrev S1x512x64 : Shape := ⟨3, ![1, 512, 64]⟩
abbrev S1x4096x64 : Shape := ⟨3, ![1, 4096, 64]⟩
abbrev S1x64x64 : Shape := ⟨3, ![1, 64, 64]⟩
abbrev S64x64 : Shape := ⟨2, ![64, 64]⟩
abbrev S1x1x1 : Shape := ⟨3, ![1, 1, 1]⟩
abbrev S512x64 : Shape := ⟨2, ![512, 64]⟩
abbrev S64x512 : Shape := ⟨2, ![64, 512]⟩

abbrev nBuf : Space → Nat
  | .hbm => 74
  | .vmem => 8
  | .smem => 1
  | _ => 0

abbrev bufTy : (tb : Table) → Fin (tcTables nBuf tb) → BufTy
  | .hbm, ⟨0, _⟩ => ⟨S1x12x4096x64, .f32⟩
  | .hbm, ⟨1, _⟩ => ⟨S1x12x4096x64, .f32⟩
  | .hbm, ⟨2, _⟩ => ⟨S1x12x4096x64, .f32⟩
  | .hbm, ⟨3, _⟩ => ⟨S12x64x3, .i32⟩
  | .hbm, ⟨4, _⟩ => ⟨S2, .i32⟩
  | .hbm, ⟨5, _⟩ => ⟨S12x4096x64, .f32⟩
  | .hbm, ⟨6, _⟩ => ⟨S_, .f32⟩
  | .hbm, ⟨7, _⟩ => ⟨S12x4096x64, .f32⟩
  | .hbm, ⟨8, _⟩ => ⟨S12x4096x64, .f32⟩
  | .hbm, ⟨9, _⟩ => ⟨S12x4096x64, .bf16⟩
  | .hbm, ⟨10, _⟩ => ⟨S12x4096x64, .f32⟩
  | .hbm, ⟨11, _⟩ => ⟨S12x4096x64, .bf16⟩
  | .hbm, ⟨12, _⟩ => ⟨S12x4096x64, .f32⟩
  | .hbm, ⟨13, _⟩ => ⟨S12x4096x64, .bf16⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i1⟩
  | .hbm, ⟨32, _⟩ => ⟨S_, .i32⟩
  | .hbm, ⟨33, _⟩ => ⟨S_, .i1⟩
  | .hbm, ⟨34, _⟩ => ⟨S64, .i1⟩
  | .hbm, ⟨35, _⟩ => ⟨S64, .i1⟩
  | .hbm, ⟨36, _⟩ => ⟨S64, .i1⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S64, .i32⟩
  | .hbm, ⟨56, _⟩ => ⟨S64, .i1⟩
  | .hbm, ⟨57, _⟩ => ⟨S_, .i32⟩
  | .hbm, ⟨58, _⟩ => ⟨S_, .i1⟩
  | .hbm, ⟨59, _⟩ => ⟨S64, .i1⟩
  | .hbm, ⟨60, _⟩ => ⟨S64, .i1⟩
  | .hbm, ⟨61, _⟩ => ⟨S64, .i1⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S64x1, .i32⟩
  | .hbm, ⟨66, _⟩ => ⟨S64x1, .i32⟩
  | .hbm, ⟨67, _⟩ => ⟨S64x1, .i32⟩
  | .hbm, ⟨68, _⟩ => ⟨S64x3, .i32⟩
  | .hbm, ⟨69, _⟩ => ⟨S64x2, .i32⟩
  | .hbm, ⟨70, _⟩ => ⟨S64x5, .i32⟩
  | .hbm, ⟨71, _⟩ => ⟨S1x64x5, .i32⟩
  | .hbm, ⟨72, _⟩ => ⟨S12x64x5, .i32⟩
  | .hbm, ⟨73, _⟩ => ⟨S12x4096x64, .f32⟩
  | .local _ .vmem, ⟨0, _⟩ => ⟨S1x512x64, .bf16⟩
  | .local _ .vmem, ⟨1, _⟩ => ⟨S1x512x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x512x64, .f32⟩
  | .local _ .vmem, ⟨7, _⟩ => ⟨S1x512x64, .f32⟩
  | .local _ .smem, ⟨0, _⟩ => ⟨S12x64x8, .i32⟩
  | _, _ => ⟨S1x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v24 : Ref sig .tc := ⟨.hbm, 73, rfl⟩
abbrev main_v23 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 8], ![false, false]⟩

abbrev pre0 : Pipeline.Prefetch sig := ⟨1, ![main_v23.idx], fun | 0 => main_v23.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v4 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v5 : Index := Scalar.indexCast v1
  let c0_2 : Index := 0#32
  ![v4.toNat, v5.toNat, 0]
def k0_off2 (v6 : BitVec 32) : Fin 3 → Nat :=
  let c0_3 : Index := 0#32
  let c64_i32 : BitVec 32 := 64#32
  let v7 : BitVec 32 := Scalar.muli v6 c64_i32
  let v8 : Index := Scalar.indexCast v7
  let c0_4 : Index := 0#32
  ![0, v8.toNat, 0]

def k0_chk1 (v6 : BitVec 32) : Prop :=
  (∀ a, (k0_off2 v6) a + S1x64x64.size a ≤ S1x4096x64.size a)
theorem k0_off2_inb : ∀ (v6 : BitVec 32) (k0_hw1 : k0_chk1 v6), ∀ a, (k0_off2 v6) a + S1x64x64.size a ≤ S1x4096x64.size a := fun v6 k0_hw1 => k0_hw1

def k0_off3 (i : grid0.Coords) : Fin 3 → Nat :=
  let arg0 : BitVec 32 := BitVec.ofNat 32 (i 0).val
  let v11 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v12 : Index := Scalar.indexCast v1
  let c1 : Index := 1#32
  ![v11.toNat, v12.toNat, 1]
def k0_off4 (v13 : BitVec 32) : Fin 3 → Nat :=
  let c0_6 : Index := 0#32
  let c64_i32_5 : BitVec 32 := 64#32
  let v14 : BitVec 32 := Scalar.muli v13 c64_i32_5
  let v15 : Index := Scalar.indexCast v14
  let c0_7 : Index := 0#32
  ![0, v15.toNat, 0]

def k0_chk2 (v13 : BitVec 32) : Prop :=
  (∀ a, (k0_off4 v13) a + S1x64x64.size a ≤ S1x4096x64.size a)
theorem k0_off4_inb : ∀ (v13 : BitVec 32) (k0_hw2 : k0_chk2 v13), ∀ a, (k0_off4 v13) a + S1x64x64.size a ≤ S1x4096x64.size a := fun v13 k0_hw2 => k0_hw2

def k0_off5 (i : grid0.Coords) : Fin 3 → Nat :=
  let arg0 : BitVec 32 := BitVec.ofNat 32 (i 0).val
  let v18 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v19 : Index := Scalar.indexCast v1
  let c2 : Index := 2#32
  ![v18.toNat, v19.toNat, 2]
def k0_off6 (v20 : BitVec 32) : Fin 3 → Nat :=
  let c0_9 : Index := 0#32
  let c64_i32_8 : BitVec 32 := 64#32
  let v21 : BitVec 32 := Scalar.muli v20 c64_i32_8
  let v22 : Index := Scalar.indexCast v21
  let c0_10 : Index := 0#32
  ![0, v22.toNat, 0]

def k0_chk3 (v20 : BitVec 32) : Prop :=
  (∀ a, (k0_off6 v20) a + S1x64x64.size a ≤ S1x4096x64.size a)
theorem k0_off6_inb : ∀ (v20 : BitVec 32) (k0_hw3 : k0_chk3 v20), ∀ a, (k0_off6 v20) a + S1x64x64.size a ≤ S1x4096x64.size a := fun v20 k0_hw3 => k0_hw3

def k0_off7 (i : grid0.Coords) : Fin 3 → Nat :=
  let arg0 : BitVec 32 := BitVec.ofNat 32 (i 0).val
  let v25 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v26 : Index := Scalar.indexCast v1
  let c3 : Index := 3#32
  ![v25.toNat, v26.toNat, 3]
def k0_off8 (v27 : BitVec 32) : Fin 3 → Nat :=
  let c0_12 : Index := 0#32
  let c64_i32_11 : BitVec 32 := 64#32
  let v28 : BitVec 32 := Scalar.muli v27 c64_i32_11
  let v29 : Index := Scalar.indexCast v28
  let c0_13 : Index := 0#32
  ![0, v29.toNat, 0]

def k0_chk4 (v27 : BitVec 32) : Prop :=
  (∀ a, (k0_off8 v27) a + S1x64x64.size a ≤ S1x4096x64.size a)
theorem k0_off8_inb : ∀ (v27 : BitVec 32) (k0_hw4 : k0_chk4 v27), ∀ a, (k0_off8 v27) a + S1x64x64.size a ≤ S1x4096x64.size a := fun v27 k0_hw4 => k0_hw4

def k0_off9 (i : grid0.Coords) : Fin 3 → Nat :=
  let arg0 : BitVec 32 := BitVec.ofNat 32 (i 0).val
  let v32 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v33 : Index := Scalar.indexCast v1
  let c4 : Index := 4#32
  ![v32.toNat, v33.toNat, 4]
def k0_off10 (v34 : BitVec 32) : Fin 3 → Nat :=
  let c0_15 : Index := 0#32
  let c64_i32_14 : BitVec 32 := 64#32
  let v35 : BitVec 32 := Scalar.muli v34 c64_i32_14
  let v36 : Index := Scalar.indexCast v35
  let c0_16 : Index := 0#32
  ![0, v36.toNat, 0]

def k0_chk5 (v34 : BitVec 32) : Prop :=
  (∀ a, (k0_off10 v34) a + S1x64x64.size a ≤ S1x4096x64.size a)
theorem k0_off10_inb : ∀ (v34 : BitVec 32) (k0_hw5 : k0_chk5 v34), ∀ a, (k0_off10 v34) a + S1x64x64.size a ≤ S1x4096x64.size a := fun v34 k0_hw5 => k0_hw5

def k0_off11 (i : grid0.Coords) : Fin 3 → Nat :=
  let arg0 : BitVec 32 := BitVec.ofNat 32 (i 0).val
  let v39 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v40 : Index := Scalar.indexCast v1
  let c5 : Index := 5#32
  ![v39.toNat, v40.toNat, 5]
def k0_off12 (v41 : BitVec 32) : Fin 3 → Nat :=
  let c0_18 : Index := 0#32
  let c64_i32_17 : BitVec 32 := 64#32
  let v42 : BitVec 32 := Scalar.muli v41 c64_i32_17
  let v43 : Index := Scalar.indexCast v42
  let c0_19 : Index := 0#32
  ![0, v43.toNat, 0]

def k0_chk6 (v41 : BitVec 32) : Prop :=
  (∀ a, (k0_off12 v41) a + S1x64x64.size a ≤ S1x4096x64.size a)
theorem k0_off12_inb : ∀ (v41 : BitVec 32) (k0_hw6 : k0_chk6 v41), ∀ a, (k0_off12 v41) a + S1x64x64.size a ≤ S1x4096x64.size a := fun v41 k0_hw6 => k0_hw6

def k0_off13 (i : grid0.Coords) : Fin 3 → Nat :=
  let arg0 : BitVec 32 := BitVec.ofNat 32 (i 0).val
  let v46 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v47 : Index := Scalar.indexCast v1
  let c6 : Index := 6#32
  ![v46.toNat, v47.toNat, 6]
def k0_off14 (v48 : BitVec 32) : Fin 3 → Nat :=
  let c0_21 : Index := 0#32
  let c64_i32_20 : BitVec 32 := 64#32
  let v49 : BitVec 32 := Scalar.muli v48 c64_i32_20
  let v50 : Index := Scalar.indexCast v49
  let c0_22 : Index := 0#32
  ![0, v50.toNat, 0]

def k0_chk7 (v48 : BitVec 32) : Prop :=
  (∀ a, (k0_off14 v48) a + S1x64x64.size a ≤ S1x4096x64.size a)
theorem k0_off14_inb : ∀ (v48 : BitVec 32) (k0_hw7 : k0_chk7 v48), ∀ a, (k0_off14 v48) a + S1x64x64.size a ≤ S1x4096x64.size a := fun v48 k0_hw7 => k0_hw7

def k0_off15 (i : grid0.Coords) : Fin 3 → Nat :=
  let arg0 : BitVec 32 := BitVec.ofNat 32 (i 0).val
  let v53 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v54 : Index := Scalar.indexCast v1
  let c7 : Index := 7#32
  ![v53.toNat, v54.toNat, 7]
def k0_off16 (v55 : BitVec 32) : Fin 3 → Nat :=
  let c0_24 : Index := 0#32
  let c64_i32_23 : BitVec 32 := 64#32
  let v56 : BitVec 32 := Scalar.muli v55 c64_i32_23
  let v57 : Index := Scalar.indexCast v56
  let c0_25 : Index := 0#32
  ![0, v57.toNat, 0]

def k0_chk8 (v55 : BitVec 32) : Prop :=
  (∀ a, (k0_off16 v55) a + S1x64x64.size a ≤ S1x4096x64.size a)
theorem k0_off16_inb : ∀ (v55 : BitVec 32) (k0_hw8 : k0_chk8 v55), ∀ a, (k0_off16 v55) a + S1x64x64.size a ≤ S1x4096x64.size a := fun v55 k0_hw8 => k0_hw8

def k0_off17 (i : grid0.Coords) : Fin 3 → Nat :=
  let arg0 : BitVec 32 := BitVec.ofNat 32 (i 0).val
  let v65 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v66 : Index := Scalar.indexCast v1
  let c0_27 : Index := 0#32
  ![v65.toNat, v66.toNat, 0]
def k0_off18 (v67 : BitVec 32) : Fin 3 → Nat :=
  let c0_29 : Index := 0#32
  let c64_i32_28 : BitVec 32 := 64#32
  let v68 : BitVec 32 := Scalar.muli v67 c64_i32_28
  let v69 : Index := Scalar.indexCast v68
  let c0_30 : Index := 0#32
  ![0, v69.toNat, 0]

def k0_chk9 (v67 : BitVec 32) : Prop :=
  (∀ a, (k0_off18 v67) a + S1x64x64.size a ≤ S1x4096x64.size a)
theorem k0_off18_inb : ∀ (v67 : BitVec 32) (k0_hw9 : k0_chk9 v67), ∀ a, (k0_off18 v67) a + S1x64x64.size a ≤ S1x4096x64.size a := fun v67 k0_hw9 => k0_hw9

def k0_off19 (i : grid0.Coords) : Fin 3 → Nat :=
  let arg0 : BitVec 32 := BitVec.ofNat 32 (i 0).val
  let v72 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v73 : Index := Scalar.indexCast v1
  let c1_31 : Index := 1#32
  ![v72.toNat, v73.toNat, 1]
def k0_off20 (v74 : BitVec 32) : Fin 3 → Nat :=
  let c0_33 : Index := 0#32
  let c64_i32_32 : BitVec 32 := 64#32
  let v75 : BitVec 32 := Scalar.muli v74 c64_i32_32
  let v76 : Index := Scalar.indexCast v75
  let c0_34 : Index := 0#32
  ![0, v76.toNat, 0]

def k0_chk10 (v74 : BitVec 32) : Prop :=
  (∀ a, (k0_off20 v74) a + S1x64x64.size a ≤ S1x4096x64.size a)
theorem k0_off20_inb : ∀ (v74 : BitVec 32) (k0_hw10 : k0_chk10 v74), ∀ a, (k0_off20 v74) a + S1x64x64.size a ≤ S1x4096x64.size a := fun v74 k0_hw10 => k0_hw10

def k0_off21 (i : grid0.Coords) : Fin 3 → Nat :=
  let arg0 : BitVec 32 := BitVec.ofNat 32 (i 0).val
  let v79 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v80 : Index := Scalar.indexCast v1
  let c2_35 : Index := 2#32
  ![v79.toNat, v80.toNat, 2]
def k0_off22 (v81 : BitVec 32) : Fin 3 → Nat :=
  let c0_37 : Index := 0#32
  let c64_i32_36 : BitVec 32 := 64#32
  let v82 : BitVec 32 := Scalar.muli v81 c64_i32_36
  let v83 : Index := Scalar.indexCast v82
  let c0_38 : Index := 0#32
  ![0, v83.toNat, 0]

def k0_chk11 (v81 : BitVec 32) : Prop :=
  (∀ a, (k0_off22 v81) a + S1x64x64.size a ≤ S1x4096x64.size a)
theorem k0_off22_inb : ∀ (v81 : BitVec 32) (k0_hw11 : k0_chk11 v81), ∀ a, (k0_off22 v81) a + S1x64x64.size a ≤ S1x4096x64.size a := fun v81 k0_hw11 => k0_hw11

def k0_off23 (i : grid0.Coords) : Fin 3 → Nat :=
  let arg0 : BitVec 32 := BitVec.ofNat 32 (i 0).val
  let v86 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v87 : Index := Scalar.indexCast v1
  let c3_39 : Index := 3#32
  ![v86.toNat, v87.toNat, 3]
def k0_off24 (v88 : BitVec 32) : Fin 3 → Nat :=
  let c0_41 : Index := 0#32
  let c64_i32_40 : BitVec 32 := 64#32
  let v89 : BitVec 32 := Scalar.muli v88 c64_i32_40
  let v90 : Index := Scalar.indexCast v89
  let c0_42 : Index := 0#32
  ![0, v90.toNat, 0]

def k0_chk12 (v88 : BitVec 32) : Prop :=
  (∀ a, (k0_off24 v88) a + S1x64x64.size a ≤ S1x4096x64.size a)
theorem k0_off24_inb : ∀ (v88 : BitVec 32) (k0_hw12 : k0_chk12 v88), ∀ a, (k0_off24 v88) a + S1x64x64.size a ≤ S1x4096x64.size a := fun v88 k0_hw12 => k0_hw12

def k0_off25 (i : grid0.Coords) : Fin 3 → Nat :=
  let arg0 : BitVec 32 := BitVec.ofNat 32 (i 0).val
  let v93 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v94 : Index := Scalar.indexCast v1
  let c4_43 : Index := 4#32
  ![v93.toNat, v94.toNat, 4]
def k0_off26 (v95 : BitVec 32) : Fin 3 → Nat :=
  let c0_45 : Index := 0#32
  let c64_i32_44 : BitVec 32 := 64#32
  let v96 : BitVec 32 := Scalar.muli v95 c64_i32_44
  let v97 : Index := Scalar.indexCast v96
  let c0_46 : Index := 0#32
  ![0, v97.toNat, 0]

def k0_chk13 (v95 : BitVec 32) : Prop :=
  (∀ a, (k0_off26 v95) a + S1x64x64.size a ≤ S1x4096x64.size a)
theorem k0_off26_inb : ∀ (v95 : BitVec 32) (k0_hw13 : k0_chk13 v95), ∀ a, (k0_off26 v95) a + S1x64x64.size a ≤ S1x4096x64.size a := fun v95 k0_hw13 => k0_hw13

def k0_off27 (i : grid0.Coords) : Fin 3 → Nat :=
  let arg0 : BitVec 32 := BitVec.ofNat 32 (i 0).val
  let v100 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v101 : Index := Scalar.indexCast v1
  let c5_47 : Index := 5#32
  ![v100.toNat, v101.toNat, 5]
def k0_off28 (v102 : BitVec 32) : Fin 3 → Nat :=
  let c0_49 : Index := 0#32
  let c64_i32_48 : BitVec 32 := 64#32
  let v103 : BitVec 32 := Scalar.muli v102 c64_i32_48
  let v104 : Index := Scalar.indexCast v103
  let c0_50 : Index := 0#32
  ![0, v104.toNat, 0]

def k0_chk14 (v102 : BitVec 32) : Prop :=
  (∀ a, (k0_off28 v102) a + S1x64x64.size a ≤ S1x4096x64.size a)
theorem k0_off28_inb : ∀ (v102 : BitVec 32) (k0_hw14 : k0_chk14 v102), ∀ a, (k0_off28 v102) a + S1x64x64.size a ≤ S1x4096x64.size a := fun v102 k0_hw14 => k0_hw14

def k0_off29 (i : grid0.Coords) : Fin 3 → Nat :=
  let arg0 : BitVec 32 := BitVec.ofNat 32 (i 0).val
  let v107 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v108 : Index := Scalar.indexCast v1
  let c6_51 : Index := 6#32
  ![v107.toNat, v108.toNat, 6]
def k0_off30 (v109 : BitVec 32) : Fin 3 → Nat :=
  let c0_53 : Index := 0#32
  let c64_i32_52 : BitVec 32 := 64#32
  let v110 : BitVec 32 := Scalar.muli v109 c64_i32_52
  let v111 : Index := Scalar.indexCast v110
  let c0_54 : Index := 0#32
  ![0, v111.toNat, 0]

def k0_chk15 (v109 : BitVec 32) : Prop :=
  (∀ a, (k0_off30 v109) a + S1x64x64.size a ≤ S1x4096x64.size a)
theorem k0_off30_inb : ∀ (v109 : BitVec 32) (k0_hw15 : k0_chk15 v109), ∀ a, (k0_off30 v109) a + S1x64x64.size a ≤ S1x4096x64.size a := fun v109 k0_hw15 => k0_hw15

def k0_off31 (i : grid0.Coords) : Fin 3 → Nat :=
  let arg0 : BitVec 32 := BitVec.ofNat 32 (i 0).val
  let v114 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v115 : Index := Scalar.indexCast v1
  let c7_55 : Index := 7#32
  ![v114.toNat, v115.toNat, 7]
def k0_off32 (v116 : BitVec 32) : Fin 3 → Nat :=
  let c0_57 : Index := 0#32
  let c64_i32_56 : BitVec 32 := 64#32
  let v117 : BitVec 32 := Scalar.muli v116 c64_i32_56
  let v118 : Index := Scalar.indexCast v117
  let c0_58 : Index := 0#32
  ![0, v118.toNat, 0]

def k0_chk16 (v116 : BitVec 32) : Prop :=
  (∀ a, (k0_off32 v116) a + S1x64x64.size a ≤ S1x4096x64.size a)
theorem k0_off32_inb : ∀ (v116 : BitVec 32) (k0_hw16 : k0_chk16 v116), ∀ a, (k0_off32 v116) a + S1x64x64.size a ≤ S1x4096x64.size a := fun v116 k0_hw16 => k0_hw16

def k0_off33 (i : grid0.Coords) : Fin 3 → Nat :=
  let arg0 : BitVec 32 := BitVec.ofNat 32 (i 0).val
  let v133 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v134 : Index := Scalar.indexCast v130
  let c0_66 : Index := 0#32
  ![v133.toNat, v134.toNat, 0]
def k0_off34 (v135 : BitVec 32) : Fin 3 → Nat :=
  let c0_68 : Index := 0#32
  let c64_i32_67 : BitVec 32 := 64#32
  let v136 : BitVec 32 := Scalar.muli v135 c64_i32_67
  let v137 : Index := Scalar.indexCast v136
  let c0_69 : Index := 0#32
  ![0, v137.toNat, 0]

def k0_chk17 (v135 : BitVec 32) : Prop :=
  (∀ a, (k0_off34 v135) a + S1x64x64.size a ≤ S1x4096x64.size a)
theorem k0_off34_inb : ∀ (v135 : BitVec 32) (k0_hw17 : k0_chk17 v135), ∀ a, (k0_off34 v135) a + S1x64x64.size a ≤ S1x4096x64.size a := fun v135 k0_hw17 => k0_hw17

def k0_off35 (i : grid0.Coords) : Fin 3 → Nat :=
  let arg0 : BitVec 32 := BitVec.ofNat 32 (i 0).val
  let v140 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v141 : Index := Scalar.indexCast v130
  let c1_70 : Index := 1#32
  ![v140.toNat, v141.toNat, 1]
def k0_off36 (v142 : BitVec 32) : Fin 3 → Nat :=
  let c0_72 : Index := 0#32
  let c64_i32_71 : BitVec 32 := 64#32
  let v143 : BitVec 32 := Scalar.muli v142 c64_i32_71
  let v144 : Index := Scalar.indexCast v143
  let c0_73 : Index := 0#32
  ![0, v144.toNat, 0]

def k0_chk18 (v142 : BitVec 32) : Prop :=
  (∀ a, (k0_off36 v142) a + S1x64x64.size a ≤ S1x4096x64.size a)
theorem k0_off36_inb : ∀ (v142 : BitVec 32) (k0_hw18 : k0_chk18 v142), ∀ a, (k0_off36 v142) a + S1x64x64.size a ≤ S1x4096x64.size a := fun v142 k0_hw18 => k0_hw18

def k0_off37 (i : grid0.Coords) : Fin 3 → Nat :=
  let arg0 : BitVec 32 := BitVec.ofNat 32 (i 0).val
  let v147 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v148 : Index := Scalar.indexCast v130
  let c2_74 : Index := 2#32
  ![v147.toNat, v148.toNat, 2]
def k0_off38 (v149 : BitVec 32) : Fin 3 → Nat :=
  let c0_76 : Index := 0#32
  let c64_i32_75 : BitVec 32 := 64#32
  let v150 : BitVec 32 := Scalar.muli v149 c64_i32_75
  let v151 : Index := Scalar.indexCast v150
  let c0_77 : Index := 0#32
  ![0, v151.toNat, 0]

def k0_chk19 (v149 : BitVec 32) : Prop :=
  (∀ a, (k0_off38 v149) a + S1x64x64.size a ≤ S1x4096x64.size a)
theorem k0_off38_inb : ∀ (v149 : BitVec 32) (k0_hw19 : k0_chk19 v149), ∀ a, (k0_off38 v149) a + S1x64x64.size a ≤ S1x4096x64.size a := fun v149 k0_hw19 => k0_hw19

def k0_off39 (i : grid0.Coords) : Fin 3 → Nat :=
  let arg0 : BitVec 32 := BitVec.ofNat 32 (i 0).val
  let v154 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v155 : Index := Scalar.indexCast v130
  let c3_78 : Index := 3#32
  ![v154.toNat, v155.toNat, 3]
def k0_off40 (v156 : BitVec 32) : Fin 3 → Nat :=
  let c0_80 : Index := 0#32
  let c64_i32_79 : BitVec 32 := 64#32
  let v157 : BitVec 32 := Scalar.muli v156 c64_i32_79
  let v158 : Index := Scalar.indexCast v157
  let c0_81 : Index := 0#32
  ![0, v158.toNat, 0]

def k0_chk20 (v156 : BitVec 32) : Prop :=
  (∀ a, (k0_off40 v156) a + S1x64x64.size a ≤ S1x4096x64.size a)
theorem k0_off40_inb : ∀ (v156 : BitVec 32) (k0_hw20 : k0_chk20 v156), ∀ a, (k0_off40 v156) a + S1x64x64.size a ≤ S1x4096x64.size a := fun v156 k0_hw20 => k0_hw20

def k0_off41 (i : grid0.Coords) : Fin 3 → Nat :=
  let arg0 : BitVec 32 := BitVec.ofNat 32 (i 0).val
  let v161 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v162 : Index := Scalar.indexCast v130
  let c4_82 : Index := 4#32
  ![v161.toNat, v162.toNat, 4]
def k0_off42 (v163 : BitVec 32) : Fin 3 → Nat :=
  let c0_84 : Index := 0#32
  let c64_i32_83 : BitVec 32 := 64#32
  let v164 : BitVec 32 := Scalar.muli v163 c64_i32_83
  let v165 : Index := Scalar.indexCast v164
  let c0_85 : Index := 0#32
  ![0, v165.toNat, 0]

def k0_chk21 (v163 : BitVec 32) : Prop :=
  (∀ a, (k0_off42 v163) a + S1x64x64.size a ≤ S1x4096x64.size a)
theorem k0_off42_inb : ∀ (v163 : BitVec 32) (k0_hw21 : k0_chk21 v163), ∀ a, (k0_off42 v163) a + S1x64x64.size a ≤ S1x4096x64.size a := fun v163 k0_hw21 => k0_hw21

def k0_off43 (i : grid0.Coords) : Fin 3 → Nat :=
  let arg0 : BitVec 32 := BitVec.ofNat 32 (i 0).val
  let v168 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v169 : Index := Scalar.indexCast v130
  let c5_86 : Index := 5#32
  ![v168.toNat, v169.toNat, 5]
def k0_off44 (v170 : BitVec 32) : Fin 3 → Nat :=
  let c0_88 : Index := 0#32
  let c64_i32_87 : BitVec 32 := 64#32
  let v171 : BitVec 32 := Scalar.muli v170 c64_i32_87
  let v172 : Index := Scalar.indexCast v171
  let c0_89 : Index := 0#32
  ![0, v172.toNat, 0]

def k0_chk22 (v170 : BitVec 32) : Prop :=
  (∀ a, (k0_off44 v170) a + S1x64x64.size a ≤ S1x4096x64.size a)
theorem k0_off44_inb : ∀ (v170 : BitVec 32) (k0_hw22 : k0_chk22 v170), ∀ a, (k0_off44 v170) a + S1x64x64.size a ≤ S1x4096x64.size a := fun v170 k0_hw22 => k0_hw22

def k0_off45 (i : grid0.Coords) : Fin 3 → Nat :=
  let arg0 : BitVec 32 := BitVec.ofNat 32 (i 0).val
  let v175 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v176 : Index := Scalar.indexCast v130
  let c6_90 : Index := 6#32
  ![v175.toNat, v176.toNat, 6]
def k0_off46 (v177 : BitVec 32) : Fin 3 → Nat :=
  let c0_92 : Index := 0#32
  let c64_i32_91 : BitVec 32 := 64#32
  let v178 : BitVec 32 := Scalar.muli v177 c64_i32_91
  let v179 : Index := Scalar.indexCast v178
  let c0_93 : Index := 0#32
  ![0, v179.toNat, 0]

def k0_chk23 (v177 : BitVec 32) : Prop :=
  (∀ a, (k0_off46 v177) a + S1x64x64.size a ≤ S1x4096x64.size a)
theorem k0_off46_inb : ∀ (v177 : BitVec 32) (k0_hw23 : k0_chk23 v177), ∀ a, (k0_off46 v177) a + S1x64x64.size a ≤ S1x4096x64.size a := fun v177 k0_hw23 => k0_hw23

def k0_off47 (i : grid0.Coords) : Fin 3 → Nat :=
  let arg0 : BitVec 32 := BitVec.ofNat 32 (i 0).val
  let v182 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v183 : Index := Scalar.indexCast v130
  let c7_94 : Index := 7#32
  ![v182.toNat, v183.toNat, 7]
def k0_off48 (v184 : BitVec 32) : Fin 3 → Nat :=
  let c0_96 : Index := 0#32
  let c64_i32_95 : BitVec 32 := 64#32
  let v185 : BitVec 32 := Scalar.muli v184 c64_i32_95
  let v186 : Index := Scalar.indexCast v185
  let c0_97 : Index := 0#32
  ![0, v186.toNat, 0]

def k0_chk24 (v184 : BitVec 32) : Prop :=
  (∀ a, (k0_off48 v184) a + S1x64x64.size a ≤ S1x4096x64.size a)
theorem k0_off48_inb : ∀ (v184 : BitVec 32) (k0_hw24 : k0_chk24 v184), ∀ a, (k0_off48 v184) a + S1x64x64.size a ≤ S1x4096x64.size a := fun v184 k0_hw24 => k0_hw24

def k0_off49 (i : grid0.Coords) : Fin 3 → Nat :=
  let arg0 : BitVec 32 := BitVec.ofNat 32 (i 0).val
  let v194 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v195 : Index := Scalar.indexCast v130
  let c0_100 : Index := 0#32
  ![v194.toNat, v195.toNat, 0]
def k0_off50 (v196 : BitVec 32) : Fin 3 → Nat :=
  let c0_102 : Index := 0#32
  let c64_i32_101 : BitVec 32 := 64#32
  let v197 : BitVec 32 := Scalar.muli v196 c64_i32_101
  let v198 : Index := Scalar.indexCast v197
  let c0_103 : Index := 0#32
  ![0, v198.toNat, 0]

def k0_chk25 (v196 : BitVec 32) : Prop :=
  (∀ a, (k0_off50 v196) a + S1x64x64.size a ≤ S1x4096x64.size a)
theorem k0_off50_inb : ∀ (v196 : BitVec 32) (k0_hw25 : k0_chk25 v196), ∀ a, (k0_off50 v196) a + S1x64x64.size a ≤ S1x4096x64.size a := fun v196 k0_hw25 => k0_hw25

def k0_off51 (i : grid0.Coords) : Fin 3 → Nat :=
  let arg0 : BitVec 32 := BitVec.ofNat 32 (i 0).val
  let v201 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v202 : Index := Scalar.indexCast v130
  let c1_104 : Index := 1#32
  ![v201.toNat, v202.toNat, 1]
def k0_off52 (v203 : BitVec 32) : Fin 3 → Nat :=
  let c0_106 : Index := 0#32
  let c64_i32_105 : BitVec 32 := 64#32
  let v204 : BitVec 32 := Scalar.muli v203 c64_i32_105
  let v205 : Index := Scalar.indexCast v204
  let c0_107 : Index := 0#32
  ![0, v205.toNat, 0]

def k0_chk26 (v203 : BitVec 32) : Prop :=
  (∀ a, (k0_off52 v203) a + S1x64x64.size a ≤ S1x4096x64.size a)
theorem k0_off52_inb : ∀ (v203 : BitVec 32) (k0_hw26 : k0_chk26 v203), ∀ a, (k0_off52 v203) a + S1x64x64.size a ≤ S1x4096x64.size a := fun v203 k0_hw26 => k0_hw26

def k0_off53 (i : grid0.Coords) : Fin 3 → Nat :=
  let arg0 : BitVec 32 := BitVec.ofNat 32 (i 0).val
  let v208 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v209 : Index := Scalar.indexCast v130
  let c2_108 : Index := 2#32
  ![v208.toNat, v209.toNat, 2]
def k0_off54 (v210 : BitVec 32) : Fin 3 → Nat :=
  let c0_110 : Index := 0#32
  let c64_i32_109 : BitVec 32 := 64#32
  let v211 : BitVec 32 := Scalar.muli v210 c64_i32_109
  let v212 : Index := Scalar.indexCast v211
  let c0_111 : Index := 0#32
  ![0, v212.toNat, 0]

def k0_chk27 (v210 : BitVec 32) : Prop :=
  (∀ a, (k0_off54 v210) a + S1x64x64.size a ≤ S1x4096x64.size a)
theorem k0_off54_inb : ∀ (v210 : BitVec 32) (k0_hw27 : k0_chk27 v210), ∀ a, (k0_off54 v210) a + S1x64x64.size a ≤ S1x4096x64.size a := fun v210 k0_hw27 => k0_hw27

def k0_off55 (i : grid0.Coords) : Fin 3 → Nat :=
  let arg0 : BitVec 32 := BitVec.ofNat 32 (i 0).val
  let v215 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v216 : Index := Scalar.indexCast v130
  let c3_112 : Index := 3#32
  ![v215.toNat, v216.toNat, 3]
def k0_off56 (v217 : BitVec 32) : Fin 3 → Nat :=
  let c0_114 : Index := 0#32
  let c64_i32_113 : BitVec 32 := 64#32
  let v218 : BitVec 32 := Scalar.muli v217 c64_i32_113
  let v219 : Index := Scalar.indexCast v218
  let c0_115 : Index := 0#32
  ![0, v219.toNat, 0]

def k0_chk28 (v217 : BitVec 32) : Prop :=
  (∀ a, (k0_off56 v217) a + S1x64x64.size a ≤ S1x4096x64.size a)
theorem k0_off56_inb : ∀ (v217 : BitVec 32) (k0_hw28 : k0_chk28 v217), ∀ a, (k0_off56 v217) a + S1x64x64.size a ≤ S1x4096x64.size a := fun v217 k0_hw28 => k0_hw28

def k0_off57 (i : grid0.Coords) : Fin 3 → Nat :=
  let arg0 : BitVec 32 := BitVec.ofNat 32 (i 0).val
  let v222 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v223 : Index := Scalar.indexCast v130
  let c4_116 : Index := 4#32
  ![v222.toNat, v223.toNat, 4]
def k0_off58 (v224 : BitVec 32) : Fin 3 → Nat :=
  let c0_118 : Index := 0#32
  let c64_i32_117 : BitVec 32 := 64#32
  let v225 : BitVec 32 := Scalar.muli v224 c64_i32_117
  let v226 : Index := Scalar.indexCast v225
  let c0_119 : Index := 0#32
  ![0, v226.toNat, 0]

def k0_chk29 (v224 : BitVec 32) : Prop :=
  (∀ a, (k0_off58 v224) a + S1x64x64.size a ≤ S1x4096x64.size a)
theorem k0_off58_inb : ∀ (v224 : BitVec 32) (k0_hw29 : k0_chk29 v224), ∀ a, (k0_off58 v224) a + S1x64x64.size a ≤ S1x4096x64.size a := fun v224 k0_hw29 => k0_hw29

def k0_off59 (i : grid0.Coords) : Fin 3 → Nat :=
  let arg0 : BitVec 32 := BitVec.ofNat 32 (i 0).val
  let v229 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v230 : Index := Scalar.indexCast v130
  let c5_120 : Index := 5#32
  ![v229.toNat, v230.toNat, 5]
def k0_off60 (v231 : BitVec 32) : Fin 3 → Nat :=
  let c0_122 : Index := 0#32
  let c64_i32_121 : BitVec 32 := 64#32
  let v232 : BitVec 32 := Scalar.muli v231 c64_i32_121
  let v233 : Index := Scalar.indexCast v232
  let c0_123 : Index := 0#32
  ![0, v233.toNat, 0]

def k0_chk30 (v231 : BitVec 32) : Prop :=
  (∀ a, (k0_off60 v231) a + S1x64x64.size a ≤ S1x4096x64.size a)
theorem k0_off60_inb : ∀ (v231 : BitVec 32) (k0_hw30 : k0_chk30 v231), ∀ a, (k0_off60 v231) a + S1x64x64.size a ≤ S1x4096x64.size a := fun v231 k0_hw30 => k0_hw30

def k0_off61 (i : grid0.Coords) : Fin 3 → Nat :=
  let arg0 : BitVec 32 := BitVec.ofNat 32 (i 0).val
  let v236 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v237 : Index := Scalar.indexCast v130
  let c6_124 : Index := 6#32
  ![v236.toNat, v237.toNat, 6]
def k0_off62 (v238 : BitVec 32) : Fin 3 → Nat :=
  let c0_126 : Index := 0#32
  let c64_i32_125 : BitVec 32 := 64#32
  let v239 : BitVec 32 := Scalar.muli v238 c64_i32_125
  let v240 : Index := Scalar.indexCast v239
  let c0_127 : Index := 0#32
  ![0, v240.toNat, 0]

def k0_chk31 (v238 : BitVec 32) : Prop :=
  (∀ a, (k0_off62 v238) a + S1x64x64.size a ≤ S1x4096x64.size a)
theorem k0_off62_inb : ∀ (v238 : BitVec 32) (k0_hw31 : k0_chk31 v238), ∀ a, (k0_off62 v238) a + S1x64x64.size a ≤ S1x4096x64.size a := fun v238 k0_hw31 => k0_hw31

def k0_off63 (i : grid0.Coords) : Fin 3 → Nat :=
  let arg0 : BitVec 32 := BitVec.ofNat 32 (i 0).val
  let v243 : Index := Scalar.indexCast arg0
  let arg1 : BitVec 32 := BitVec.ofNat 32 (i 1).val
  let c8_i32_63 : BitVec 32 := 8#32
  let v129 : BitVec 32 := Scalar.muli arg1 c8_i32_63
  let c1_i32 : BitVec 32 := 1#32
  let v130 : BitVec 32 := Scalar.addi v129 c1_i32
  let v244 : Index := Scalar.indexCast v130
  let c7_128 : Index := 7#32
  ![v243.toNat, v244.toNat, 7]
def k0_off64 (v245 : BitVec 32) : Fin 3 → Nat :=
  let c0_130 : Index := 0#32
  let c64_i32_129 : BitVec 32 := 64#32
  let v246 : BitVec 32 := Scalar.muli v245 c64_i32_129
  let v247 : Index := Scalar.indexCast v246
  let c0_131 : Index := 0#32
  ![0, v247.toNat, 0]

def k0_chk32 (v245 : BitVec 32) : Prop :=
  (∀ a, (k0_off64 v245) a + S1x64x64.size a ≤ S1x4096x64.size a)
theorem k0_off64_inb : ∀ (v245 : BitVec 32) (k0_hw32 : k0_chk32 v245), ∀ a, (k0_off64 v245) a + S1x64x64.size a ≤ S1x4096x64.size a := fun v245 k0_hw32 => k0_hw32

def k0_off65 (i : grid0.Coords) : Fin 3 → Nat :=
  let arg0 : BitVec 32 := BitVec.ofNat 32 (i 0).val
  let v262 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v263 : Index := Scalar.indexCast v259
  let c0_139 : Index := 0#32
  ![v262.toNat, v263.toNat, 0]
def k0_off66 (v264 : BitVec 32) : Fin 3 → Nat :=
  let c0_141 : Index := 0#32
  let c64_i32_140 : BitVec 32 := 64#32
  let v265 : BitVec 32 := Scalar.muli v264 c64_i32_140
  let v266 : Index := Scalar.indexCast v265
  let c0_142 : Index := 0#32
  ![0, v266.toNat, 0]

def k0_chk33 (v264 : BitVec 32) : Prop :=
  (∀ a, (k0_off66 v264) a + S1x64x64.size a ≤ S1x4096x64.size a)
theorem k0_off66_inb : ∀ (v264 : BitVec 32) (k0_hw33 : k0_chk33 v264), ∀ a, (k0_off66 v264) a + S1x64x64.size a ≤ S1x4096x64.size a := fun v264 k0_hw33 => k0_hw33

def k0_off67 (i : grid0.Coords) : Fin 3 → Nat :=
  let arg0 : BitVec 32 := BitVec.ofNat 32 (i 0).val
  let v269 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v270 : Index := Scalar.indexCast v259
  let c1_143 : Index := 1#32
  ![v269.toNat, v270.toNat, 1]
def k0_off68 (v271 : BitVec 32) : Fin 3 → Nat :=
  let c0_145 : Index := 0#32
  let c64_i32_144 : BitVec 32 := 64#32
  let v272 : BitVec 32 := Scalar.muli v271 c64_i32_144
  let v273 : Index := Scalar.indexCast v272
  let c0_146 : Index := 0#32
  ![0, v273.toNat, 0]

def k0_chk34 (v271 : BitVec 32) : Prop :=
  (∀ a, (k0_off68 v271) a + S1x64x64.size a ≤ S1x4096x64.size a)
theorem k0_off68_inb : ∀ (v271 : BitVec 32) (k0_hw34 : k0_chk34 v271), ∀ a, (k0_off68 v271) a + S1x64x64.size a ≤ S1x4096x64.size a := fun v271 k0_hw34 => k0_hw34

def k0_off69 (i : grid0.Coords) : Fin 3 → Nat :=
  let arg0 : BitVec 32 := BitVec.ofNat 32 (i 0).val
  let v276 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v277 : Index := Scalar.indexCast v259
  let c2_147 : Index := 2#32
  ![v276.toNat, v277.toNat, 2]
def k0_off70 (v278 : BitVec 32) : Fin 3 → Nat :=
  let c0_149 : Index := 0#32
  let c64_i32_148 : BitVec 32 := 64#32
  let v279 : BitVec 32 := Scalar.muli v278 c64_i32_148
  let v280 : Index := Scalar.indexCast v279
  let c0_150 : Index := 0#32
  ![0, v280.toNat, 0]

def k0_chk35 (v278 : BitVec 32) : Prop :=
  (∀ a, (k0_off70 v278) a + S1x64x64.size a ≤ S1x4096x64.size a)
theorem k0_off70_inb : ∀ (v278 : BitVec 32) (k0_hw35 : k0_chk35 v278), ∀ a, (k0_off70 v278) a + S1x64x64.size a ≤ S1x4096x64.size a := fun v278 k0_hw35 => k0_hw35

def k0_off71 (i : grid0.Coords) : Fin 3 → Nat :=
  let arg0 : BitVec 32 := BitVec.ofNat 32 (i 0).val
  let v283 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v284 : Index := Scalar.indexCast v259
  let c3_151 : Index := 3#32
  ![v283.toNat, v284.toNat, 3]
def k0_off72 (v285 : BitVec 32) : Fin 3 → Nat :=
  let c0_153 : Index := 0#32
  let c64_i32_152 : BitVec 32 := 64#32
  let v286 : BitVec 32 := Scalar.muli v285 c64_i32_152
  let v287 : Index := Scalar.indexCast v286
  let c0_154 : Index := 0#32
  ![0, v287.toNat, 0]

def k0_chk36 (v285 : BitVec 32) : Prop :=
  (∀ a, (k0_off72 v285) a + S1x64x64.size a ≤ S1x4096x64.size a)
theorem k0_off72_inb : ∀ (v285 : BitVec 32) (k0_hw36 : k0_chk36 v285), ∀ a, (k0_off72 v285) a + S1x64x64.size a ≤ S1x4096x64.size a := fun v285 k0_hw36 => k0_hw36

def k0_off73 (i : grid0.Coords) : Fin 3 → Nat :=
  let arg0 : BitVec 32 := BitVec.ofNat 32 (i 0).val
  let v290 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v291 : Index := Scalar.indexCast v259
  let c4_155 : Index := 4#32
  ![v290.toNat, v291.toNat, 4]
def k0_off74 (v292 : BitVec 32) : Fin 3 → Nat :=
  let c0_157 : Index := 0#32
  let c64_i32_156 : BitVec 32 := 64#32
  let v293 : BitVec 32 := Scalar.muli v292 c64_i32_156
  let v294 : Index := Scalar.indexCast v293
  let c0_158 : Index := 0#32
  ![0, v294.toNat, 0]

def k0_chk37 (v292 : BitVec 32) : Prop :=
  (∀ a, (k0_off74 v292) a + S1x64x64.size a ≤ S1x4096x64.size a)
theorem k0_off74_inb : ∀ (v292 : BitVec 32) (k0_hw37 : k0_chk37 v292), ∀ a, (k0_off74 v292) a + S1x64x64.size a ≤ S1x4096x64.size a := fun v292 k0_hw37 => k0_hw37

def k0_off75 (i : grid0.Coords) : Fin 3 → Nat :=
  let arg0 : BitVec 32 := BitVec.ofNat 32 (i 0).val
  let v297 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v298 : Index := Scalar.indexCast v259
  let c5_159 : Index := 5#32
  ![v297.toNat, v298.toNat, 5]
def k0_off76 (v299 : BitVec 32) : Fin 3 → Nat :=
  let c0_161 : Index := 0#32
  let c64_i32_160 : BitVec 32 := 64#32
  let v300 : BitVec 32 := Scalar.muli v299 c64_i32_160
  let v301 : Index := Scalar.indexCast v300
  let c0_162 : Index := 0#32
  ![0, v301.toNat, 0]

def k0_chk38 (v299 : BitVec 32) : Prop :=
  (∀ a, (k0_off76 v299) a + S1x64x64.size a ≤ S1x4096x64.size a)
theorem k0_off76_inb : ∀ (v299 : BitVec 32) (k0_hw38 : k0_chk38 v299), ∀ a, (k0_off76 v299) a + S1x64x64.size a ≤ S1x4096x64.size a := fun v299 k0_hw38 => k0_hw38

def k0_off77 (i : grid0.Coords) : Fin 3 → Nat :=
  let arg0 : BitVec 32 := BitVec.ofNat 32 (i 0).val
  let v304 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v305 : Index := Scalar.indexCast v259
  let c6_163 : Index := 6#32
  ![v304.toNat, v305.toNat, 6]
def k0_off78 (v306 : BitVec 32) : Fin 3 → Nat :=
  let c0_165 : Index := 0#32
  let c64_i32_164 : BitVec 32 := 64#32
  let v307 : BitVec 32 := Scalar.muli v306 c64_i32_164
  let v308 : Index := Scalar.indexCast v307
  let c0_166 : Index := 0#32
  ![0, v308.toNat, 0]

def k0_chk39 (v306 : BitVec 32) : Prop :=
  (∀ a, (k0_off78 v306) a + S1x64x64.size a ≤ S1x4096x64.size a)
theorem k0_off78_inb : ∀ (v306 : BitVec 32) (k0_hw39 : k0_chk39 v306), ∀ a, (k0_off78 v306) a + S1x64x64.size a ≤ S1x4096x64.size a := fun v306 k0_hw39 => k0_hw39

def k0_off79 (i : grid0.Coords) : Fin 3 → Nat :=
  let arg0 : BitVec 32 := BitVec.ofNat 32 (i 0).val
  let v311 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v312 : Index := Scalar.indexCast v259
  let c7_167 : Index := 7#32
  ![v311.toNat, v312.toNat, 7]
def k0_off80 (v313 : BitVec 32) : Fin 3 → Nat :=
  let c0_169 : Index := 0#32
  let c64_i32_168 : BitVec 32 := 64#32
  let v314 : BitVec 32 := Scalar.muli v313 c64_i32_168
  let v315 : Index := Scalar.indexCast v314
  let c0_170 : Index := 0#32
  ![0, v315.toNat, 0]

def k0_chk40 (v313 : BitVec 32) : Prop :=
  (∀ a, (k0_off80 v313) a + S1x64x64.size a ≤ S1x4096x64.size a)
theorem k0_off80_inb : ∀ (v313 : BitVec 32) (k0_hw40 : k0_chk40 v313), ∀ a, (k0_off80 v313) a + S1x64x64.size a ≤ S1x4096x64.size a := fun v313 k0_hw40 => k0_hw40

def k0_off81 (i : grid0.Coords) : Fin 3 → Nat :=
  let arg0 : BitVec 32 := BitVec.ofNat 32 (i 0).val
  let v323 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v324 : Index := Scalar.indexCast v259
  let c0_173 : Index := 0#32
  ![v323.toNat, v324.toNat, 0]
def k0_off82 (v325 : BitVec 32) : Fin 3 → Nat :=
  let c0_175 : Index := 0#32
  let c64_i32_174 : BitVec 32 := 64#32
  let v326 : BitVec 32 := Scalar.muli v325 c64_i32_174
  let v327 : Index := Scalar.indexCast v326
  let c0_176 : Index := 0#32
  ![0, v327.toNat, 0]

def k0_chk41 (v325 : BitVec 32) : Prop :=
  (∀ a, (k0_off82 v325) a + S1x64x64.size a ≤ S1x4096x64.size a)
theorem k0_off82_inb : ∀ (v325 : BitVec 32) (k0_hw41 : k0_chk41 v325), ∀ a, (k0_off82 v325) a + S1x64x64.size a ≤ S1x4096x64.size a := fun v325 k0_hw41 => k0_hw41

def k0_off83 (i : grid0.Coords) : Fin 3 → Nat :=
  let arg0 : BitVec 32 := BitVec.ofNat 32 (i 0).val
  let v330 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v331 : Index := Scalar.indexCast v259
  let c1_177 : Index := 1#32
  ![v330.toNat, v331.toNat, 1]
def k0_off84 (v332 : BitVec 32) : Fin 3 → Nat :=
  let c0_179 : Index := 0#32
  let c64_i32_178 : BitVec 32 := 64#32
  let v333 : BitVec 32 := Scalar.muli v332 c64_i32_178
  let v334 : Index := Scalar.indexCast v333
  let c0_180 : Index := 0#32
  ![0, v334.toNat, 0]

def k0_chk42 (v332 : BitVec 32) : Prop :=
  (∀ a, (k0_off84 v332) a + S1x64x64.size a ≤ S1x4096x64.size a)
theorem k0_off84_inb : ∀ (v332 : BitVec 32) (k0_hw42 : k0_chk42 v332), ∀ a, (k0_off84 v332) a + S1x64x64.size a ≤ S1x4096x64.size a := fun v332 k0_hw42 => k0_hw42

def k0_off85 (i : grid0.Coords) : Fin 3 → Nat :=
  let arg0 : BitVec 32 := BitVec.ofNat 32 (i 0).val
  let v337 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v338 : Index := Scalar.indexCast v259
  let c2_181 : Index := 2#32
  ![v337.toNat, v338.toNat, 2]
def k0_off86 (v339 : BitVec 32) : Fin 3 → Nat :=
  let c0_183 : Index := 0#32
  let c64_i32_182 : BitVec 32 := 64#32
  let v340 : BitVec 32 := Scalar.muli v339 c64_i32_182
  let v341 : Index := Scalar.indexCast v340
  let c0_184 : Index := 0#32
  ![0, v341.toNat, 0]

def k0_chk43 (v339 : BitVec 32) : Prop :=
  (∀ a, (k0_off86 v339) a + S1x64x64.size a ≤ S1x4096x64.size a)
theorem k0_off86_inb : ∀ (v339 : BitVec 32) (k0_hw43 : k0_chk43 v339), ∀ a, (k0_off86 v339) a + S1x64x64.size a ≤ S1x4096x64.size a := fun v339 k0_hw43 => k0_hw43

def k0_off87 (i : grid0.Coords) : Fin 3 → Nat :=
  let arg0 : BitVec 32 := BitVec.ofNat 32 (i 0).val
  let v344 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v345 : Index := Scalar.indexCast v259
  let c3_185 : Index := 3#32
  ![v344.toNat, v345.toNat, 3]
def k0_off88 (v346 : BitVec 32) : Fin 3 → Nat :=
  let c0_187 : Index := 0#32
  let c64_i32_186 : BitVec 32 := 64#32
  let v347 : BitVec 32 := Scalar.muli v346 c64_i32_186
  let v348 : Index := Scalar.indexCast v347
  let c0_188 : Index := 0#32
  ![0, v348.toNat, 0]

def k0_chk44 (v346 : BitVec 32) : Prop :=
  (∀ a, (k0_off88 v346) a + S1x64x64.size a ≤ S1x4096x64.size a)
theorem k0_off88_inb : ∀ (v346 : BitVec 32) (k0_hw44 : k0_chk44 v346), ∀ a, (k0_off88 v346) a + S1x64x64.size a ≤ S1x4096x64.size a := fun v346 k0_hw44 => k0_hw44

def k0_off89 (i : grid0.Coords) : Fin 3 → Nat :=
  let arg0 : BitVec 32 := BitVec.ofNat 32 (i 0).val
  let v351 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v352 : Index := Scalar.indexCast v259
  let c4_189 : Index := 4#32
  ![v351.toNat, v352.toNat, 4]
def k0_off90 (v353 : BitVec 32) : Fin 3 → Nat :=
  let c0_191 : Index := 0#32
  let c64_i32_190 : BitVec 32 := 64#32
  let v354 : BitVec 32 := Scalar.muli v353 c64_i32_190
  let v355 : Index := Scalar.indexCast v354
  let c0_192 : Index := 0#32
  ![0, v355.toNat, 0]

def k0_chk45 (v353 : BitVec 32) : Prop :=
  (∀ a, (k0_off90 v353) a + S1x64x64.size a ≤ S1x4096x64.size a)
theorem k0_off90_inb : ∀ (v353 : BitVec 32) (k0_hw45 : k0_chk45 v353), ∀ a, (k0_off90 v353) a + S1x64x64.size a ≤ S1x4096x64.size a := fun v353 k0_hw45 => k0_hw45

def k0_off91 (i : grid0.Coords) : Fin 3 → Nat :=
  let arg0 : BitVec 32 := BitVec.ofNat 32 (i 0).val
  let v358 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v359 : Index := Scalar.indexCast v259
  let c5_193 : Index := 5#32
  ![v358.toNat, v359.toNat, 5]
def k0_off92 (v360 : BitVec 32) : Fin 3 → Nat :=
  let c0_195 : Index := 0#32
  let c64_i32_194 : BitVec 32 := 64#32
  let v361 : BitVec 32 := Scalar.muli v360 c64_i32_194
  let v362 : Index := Scalar.indexCast v361
  let c0_196 : Index := 0#32
  ![0, v362.toNat, 0]

def k0_chk46 (v360 : BitVec 32) : Prop :=
  (∀ a, (k0_off92 v360) a + S1x64x64.size a ≤ S1x4096x64.size a)
theorem k0_off92_inb : ∀ (v360 : BitVec 32) (k0_hw46 : k0_chk46 v360), ∀ a, (k0_off92 v360) a + S1x64x64.size a ≤ S1x4096x64.size a := fun v360 k0_hw46 => k0_hw46

def k0_off93 (i : grid0.Coords) : Fin 3 → Nat :=
  let arg0 : BitVec 32 := BitVec.ofNat 32 (i 0).val
  let v365 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v366 : Index := Scalar.indexCast v259
  let c6_197 : Index := 6#32
  ![v365.toNat, v366.toNat, 6]
def k0_off94 (v367 : BitVec 32) : Fin 3 → Nat :=
  let c0_199 : Index := 0#32
  let c64_i32_198 : BitVec 32 := 64#32
  let v368 : BitVec 32 := Scalar.muli v367 c64_i32_198
  let v369 : Index := Scalar.indexCast v368
  let c0_200 : Index := 0#32
  ![0, v369.toNat, 0]

def k0_chk47 (v367 : BitVec 32) : Prop :=
  (∀ a, (k0_off94 v367) a + S1x64x64.size a ≤ S1x4096x64.size a)
theorem k0_off94_inb : ∀ (v367 : BitVec 32) (k0_hw47 : k0_chk47 v367), ∀ a, (k0_off94 v367) a + S1x64x64.size a ≤ S1x4096x64.size a := fun v367 k0_hw47 => k0_hw47

def k0_off95 (i : grid0.Coords) : Fin 3 → Nat :=
  let arg0 : BitVec 32 := BitVec.ofNat 32 (i 0).val
  let v372 : Index := Scalar.indexCast arg0
  let arg1 : BitVec 32 := BitVec.ofNat 32 (i 1).val
  let c8_i32_136 : BitVec 32 := 8#32
  let v258 : BitVec 32 := Scalar.muli arg1 c8_i32_136
  let c2_i32 : BitVec 32 := 2#32
  let v259 : BitVec 32 := Scalar.addi v258 c2_i32
  let v373 : Index := Scalar.indexCast v259
  let c7_201 : Index := 7#32
  ![v372.toNat, v373.toNat, 7]
def k0_off96 (v374 : BitVec 32) : Fin 3 → Nat :=
  let c0_203 : Index := 0#32
  let c64_i32_202 : BitVec 32 := 64#32
  let v375 : BitVec 32 := Scalar.muli v374 c64_i32_202
  let v376 : Index := Scalar.indexCast v375
  let c0_204 : Index := 0#32
  ![0, v376.toNat, 0]

def k0_chk48 (v374 : BitVec 32) : Prop :=
  (∀ a, (k0_off96 v374) a + S1x64x64.size a ≤ S1x4096x64.size a)
theorem k0_off96_inb : ∀ (v374 : BitVec 32) (k0_hw48 : k0_chk48 v374), ∀ a, (k0_off96 v374) a + S1x64x64.size a ≤ S1x4096x64.size a := fun v374 k0_hw48 => k0_hw48

def k0_off97 (i : grid0.Coords) : Fin 3 → Nat :=
  let arg0 : BitVec 32 := BitVec.ofNat 32 (i 0).val
  let v391 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v392 : Index := Scalar.indexCast v388
  let c0_212 : Index := 0#32
  ![v391.toNat, v392.toNat, 0]
def k0_off98 (v393 : BitVec 32) : Fin 3 → Nat :=
  let c0_214 : Index := 0#32
  let c64_i32_213 : BitVec 32 := 64#32
  let v394 : BitVec 32 := Scalar.muli v393 c64_i32_213
  let v395 : Index := Scalar.indexCast v394
  let c0_215 : Index := 0#32
  ![0, v395.toNat, 0]

def k0_chk49 (v393 : BitVec 32) : Prop :=
  (∀ a, (k0_off98 v393) a + S1x64x64.size a ≤ S1x4096x64.size a)
theorem k0_off98_inb : ∀ (v393 : BitVec 32) (k0_hw49 : k0_chk49 v393), ∀ a, (k0_off98 v393) a + S1x64x64.size a ≤ S1x4096x64.size a := fun v393 k0_hw49 => k0_hw49

def k0_off99 (i : grid0.Coords) : Fin 3 → Nat :=
  let arg0 : BitVec 32 := BitVec.ofNat 32 (i 0).val
  let v398 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v399 : Index := Scalar.indexCast v388
  let c1_216 : Index := 1#32
  ![v398.toNat, v399.toNat, 1]
def k0_off100 (v400 : BitVec 32) : Fin 3 → Nat :=
  let c0_218 : Index := 0#32
  let c64_i32_217 : BitVec 32 := 64#32
  let v401 : BitVec 32 := Scalar.muli v400 c64_i32_217
  let v402 : Index := Scalar.indexCast v401
  let c0_219 : Index := 0#32
  ![0, v402.toNat, 0]

def k0_chk50 (v400 : BitVec 32) : Prop :=
  (∀ a, (k0_off100 v400) a + S1x64x64.size a ≤ S1x4096x64.size a)
theorem k0_off100_inb : ∀ (v400 : BitVec 32) (k0_hw50 : k0_chk50 v400), ∀ a, (k0_off100 v400) a + S1x64x64.size a ≤ S1x4096x64.size a := fun v400 k0_hw50 => k0_hw50

def k0_off101 (i : grid0.Coords) : Fin 3 → Nat :=
  let arg0 : BitVec 32 := BitVec.ofNat 32 (i 0).val
  let v405 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v406 : Index := Scalar.indexCast v388
  let c2_220 : Index := 2#32
  ![v405.toNat, v406.toNat, 2]
def k0_off102 (v407 : BitVec 32) : Fin 3 → Nat :=
  let c0_222 : Index := 0#32
  let c64_i32_221 : BitVec 32 := 64#32
  let v408 : BitVec 32 := Scalar.muli v407 c64_i32_221
  let v409 : Index := Scalar.indexCast v408
  let c0_223 : Index := 0#32
  ![0, v409.toNat, 0]

def k0_chk51 (v407 : BitVec 32) : Prop :=
  (∀ a, (k0_off102 v407) a + S1x64x64.size a ≤ S1x4096x64.size a)
theorem k0_off102_inb : ∀ (v407 : BitVec 32) (k0_hw51 : k0_chk51 v407), ∀ a, (k0_off102 v407) a + S1x64x64.size a ≤ S1x4096x64.size a := fun v407 k0_hw51 => k0_hw51

def k0_off103 (i : grid0.Coords) : Fin 3 → Nat :=
  let arg0 : BitVec 32 := BitVec.ofNat 32 (i 0).val
  let v412 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v413 : Index := Scalar.indexCast v388
  let c3_224 : Index := 3#32
  ![v412.toNat, v413.toNat, 3]
def k0_off104 (v414 : BitVec 32) : Fin 3 → Nat :=
  let c0_226 : Index := 0#32
  let c64_i32_225 : BitVec 32 := 64#32
  let v415 : BitVec 32 := Scalar.muli v414 c64_i32_225
  let v416 : Index := Scalar.indexCast v415
  let c0_227 : Index := 0#32
  ![0, v416.toNat, 0]

def k0_chk52 (v414 : BitVec 32) : Prop :=
  (∀ a, (k0_off104 v414) a + S1x64x64.size a ≤ S1x4096x64.size a)
theorem k0_off104_inb : ∀ (v414 : BitVec 32) (k0_hw52 : k0_chk52 v414), ∀ a, (k0_off104 v414) a + S1x64x64.size a ≤ S1x4096x64.size a := fun v414 k0_hw52 => k0_hw52

def k0_off105 (i : grid0.Coords) : Fin 3 → Nat :=
  let arg0 : BitVec 32 := BitVec.ofNat 32 (i 0).val
  let v419 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v420 : Index := Scalar.indexCast v388
  let c4_228 : Index := 4#32
  ![v419.toNat, v420.toNat, 4]
def k0_off106 (v421 : BitVec 32) : Fin 3 → Nat :=
  let c0_230 : Index := 0#32
  let c64_i32_229 : BitVec 32 := 64#32
  let v422 : BitVec 32 := Scalar.muli v421 c64_i32_229
  let v423 : Index := Scalar.indexCast v422
  let c0_231 : Index := 0#32
  ![0, v423.toNat, 0]

def k0_chk53 (v421 : BitVec 32) : Prop :=
  (∀ a, (k0_off106 v421) a + S1x64x64.size a ≤ S1x4096x64.size a)
theorem k0_off106_inb : ∀ (v421 : BitVec 32) (k0_hw53 : k0_chk53 v421), ∀ a, (k0_off106 v421) a + S1x64x64.size a ≤ S1x4096x64.size a := fun v421 k0_hw53 => k0_hw53

def k0_off107 (i : grid0.Coords) : Fin 3 → Nat :=
  let arg0 : BitVec 32 := BitVec.ofNat 32 (i 0).val
  let v426 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v427 : Index := Scalar.indexCast v388
  let c5_232 : Index := 5#32
  ![v426.toNat, v427.toNat, 5]
def k0_off108 (v428 : BitVec 32) : Fin 3 → Nat :=
  let c0_234 : Index := 0#32
  let c64_i32_233 : BitVec 32 := 64#32
  let v429 : BitVec 32 := Scalar.muli v428 c64_i32_233
  let v430 : Index := Scalar.indexCast v429
  let c0_235 : Index := 0#32
  ![0, v430.toNat, 0]

def k0_chk54 (v428 : BitVec 32) : Prop :=
  (∀ a, (k0_off108 v428) a + S1x64x64.size a ≤ S1x4096x64.size a)
theorem k0_off108_inb : ∀ (v428 : BitVec 32) (k0_hw54 : k0_chk54 v428), ∀ a, (k0_off108 v428) a + S1x64x64.size a ≤ S1x4096x64.size a := fun v428 k0_hw54 => k0_hw54

def k0_off109 (i : grid0.Coords) : Fin 3 → Nat :=
  let arg0 : BitVec 32 := BitVec.ofNat 32 (i 0).val
  let v433 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v434 : Index := Scalar.indexCast v388
  let c6_236 : Index := 6#32
  ![v433.toNat, v434.toNat, 6]
def k0_off110 (v435 : BitVec 32) : Fin 3 → Nat :=
  let c0_238 : Index := 0#32
  let c64_i32_237 : BitVec 32 := 64#32
  let v436 : BitVec 32 := Scalar.muli v435 c64_i32_237
  let v437 : Index := Scalar.indexCast v436
  let c0_239 : Index := 0#32
  ![0, v437.toNat, 0]

def k0_chk55 (v435 : BitVec 32) : Prop :=
  (∀ a, (k0_off110 v435) a + S1x64x64.size a ≤ S1x4096x64.size a)
theorem k0_off110_inb : ∀ (v435 : BitVec 32) (k0_hw55 : k0_chk55 v435), ∀ a, (k0_off110 v435) a + S1x64x64.size a ≤ S1x4096x64.size a := fun v435 k0_hw55 => k0_hw55

def k0_off111 (i : grid0.Coords) : Fin 3 → Nat :=
  let arg0 : BitVec 32 := BitVec.ofNat 32 (i 0).val
  let v440 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v441 : Index := Scalar.indexCast v388
  let c7_240 : Index := 7#32
  ![v440.toNat, v441.toNat, 7]
def k0_off112 (v442 : BitVec 32) : Fin 3 → Nat :=
  let c0_242 : Index := 0#32
  let c64_i32_241 : BitVec 32 := 64#32
  let v443 : BitVec 32 := Scalar.muli v442 c64_i32_241
  let v444 : Index := Scalar.indexCast v443
  let c0_243 : Index := 0#32
  ![0, v444.toNat, 0]

def k0_chk56 (v442 : BitVec 32) : Prop :=
  (∀ a, (k0_off112 v442) a + S1x64x64.size a ≤ S1x4096x64.size a)
theorem k0_off112_inb : ∀ (v442 : BitVec 32) (k0_hw56 : k0_chk56 v442), ∀ a, (k0_off112 v442) a + S1x64x64.size a ≤ S1x4096x64.size a := fun v442 k0_hw56 => k0_hw56

def k0_off113 (i : grid0.Coords) : Fin 3 → Nat :=
  let arg0 : BitVec 32 := BitVec.ofNat 32 (i 0).val
  let v452 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v453 : Index := Scalar.indexCast v388
  let c0_246 : Index := 0#32
  ![v452.toNat, v453.toNat, 0]
def k0_off114 (v454 : BitVec 32) : Fin 3 → Nat :=
  let c0_248 : Index := 0#32
  let c64_i32_247 : BitVec 32 := 64#32
  let v455 : BitVec 32 := Scalar.muli v454 c64_i32_247
  let v456 : Index := Scalar.indexCast v455
  let c0_249 : Index := 0#32
  ![0, v456.toNat, 0]

def k0_chk57 (v454 : BitVec 32) : Prop :=
  (∀ a, (k0_off114 v454) a + S1x64x64.size a ≤ S1x4096x64.size a)
theorem k0_off114_inb : ∀ (v454 : BitVec 32) (k0_hw57 : k0_chk57 v454), ∀ a, (k0_off114 v454) a + S1x64x64.size a ≤ S1x4096x64.size a := fun v454 k0_hw57 => k0_hw57

def k0_off115 (i : grid0.Coords) : Fin 3 → Nat :=
  let arg0 : BitVec 32 := BitVec.ofNat 32 (i 0).val
  let v459 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v460 : Index := Scalar.indexCast v388
  let c1_250 : Index := 1#32
  ![v459.toNat, v460.toNat, 1]
def k0_off116 (v461 : BitVec 32) : Fin 3 → Nat :=
  let c0_252 : Index := 0#32
  let c64_i32_251 : BitVec 32 := 64#32
  let v462 : BitVec 32 := Scalar.muli v461 c64_i32_251
  let v463 : Index := Scalar.indexCast v462
  let c0_253 : Index := 0#32
  ![0, v463.toNat, 0]

def k0_chk58 (v461 : BitVec 32) : Prop :=
  (∀ a, (k0_off116 v461) a + S1x64x64.size a ≤ S1x4096x64.size a)
theorem k0_off116_inb : ∀ (v461 : BitVec 32) (k0_hw58 : k0_chk58 v461), ∀ a, (k0_off116 v461) a + S1x64x64.size a ≤ S1x4096x64.size a := fun v461 k0_hw58 => k0_hw58

def k0_off117 (i : grid0.Coords) : Fin 3 → Nat :=
  let arg0 : BitVec 32 := BitVec.ofNat 32 (i 0).val
  let v466 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v467 : Index := Scalar.indexCast v388
  let c2_254 : Index := 2#32
  ![v466.toNat, v467.toNat, 2]
def k0_off118 (v468 : BitVec 32) : Fin 3 → Nat :=
  let c0_256 : Index := 0#32
  let c64_i32_255 : BitVec 32 := 64#32
  let v469 : BitVec 32 := Scalar.muli v468 c64_i32_255
  let v470 : Index := Scalar.indexCast v469
  let c0_257 : Index := 0#32
  ![0, v470.toNat, 0]

def k0_chk59 (v468 : BitVec 32) : Prop :=
  (∀ a, (k0_off118 v468) a + S1x64x64.size a ≤ S1x4096x64.size a)
theorem k0_off118_inb : ∀ (v468 : BitVec 32) (k0_hw59 : k0_chk59 v468), ∀ a, (k0_off118 v468) a + S1x64x64.size a ≤ S1x4096x64.size a := fun v468 k0_hw59 => k0_hw59

def k0_off119 (i : grid0.Coords) : Fin 3 → Nat :=
  let arg0 : BitVec 32 := BitVec.ofNat 32 (i 0).val
  let v473 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v474 : Index := Scalar.indexCast v388
  let c3_258 : Index := 3#32
  ![v473.toNat, v474.toNat, 3]
def k0_off120 (v475 : BitVec 32) : Fin 3 → Nat :=
  let c0_260 : Index := 0#32
  let c64_i32_259 : BitVec 32 := 64#32
  let v476 : BitVec 32 := Scalar.muli v475 c64_i32_259
  let v477 : Index := Scalar.indexCast v476
  let c0_261 : Index := 0#32
  ![0, v477.toNat, 0]

def k0_chk60 (v475 : BitVec 32) : Prop :=
  (∀ a, (k0_off120 v475) a + S1x64x64.size a ≤ S1x4096x64.size a)
theorem k0_off120_inb : ∀ (v475 : BitVec 32) (k0_hw60 : k0_chk60 v475), ∀ a, (k0_off120 v475) a + S1x64x64.size a ≤ S1x4096x64.size a := fun v475 k0_hw60 => k0_hw60

def k0_off121 (i : grid0.Coords) : Fin 3 → Nat :=
  let arg0 : BitVec 32 := BitVec.ofNat 32 (i 0).val
  let v480 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v481 : Index := Scalar.indexCast v388
  let c4_262 : Index := 4#32
  ![v480.toNat, v481.toNat, 4]
def k0_off122 (v482 : BitVec 32) : Fin 3 → Nat :=
  let c0_264 : Index := 0#32
  let c64_i32_263 : BitVec 32 := 64#32
  let v483 : BitVec 32 := Scalar.muli v482 c64_i32_263
  let v484 : Index := Scalar.indexCast v483
  let c0_265 : Index := 0#32
  ![0, v484.toNat, 0]

def k0_chk61 (v482 : BitVec 32) : Prop :=
  (∀ a, (k0_off122 v482) a + S1x64x64.size a ≤ S1x4096x64.size a)
theorem k0_off122_inb : ∀ (v482 : BitVec 32) (k0_hw61 : k0_chk61 v482), ∀ a, (k0_off122 v482) a + S1x64x64.size a ≤ S1x4096x64.size a := fun v482 k0_hw61 => k0_hw61

def k0_off123 (i : grid0.Coords) : Fin 3 → Nat :=
  let arg0 : BitVec 32 := BitVec.ofNat 32 (i 0).val
  let v487 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v488 : Index := Scalar.indexCast v388
  let c5_266 : Index := 5#32
  ![v487.toNat, v488.toNat, 5]
def k0_off124 (v489 : BitVec 32) : Fin 3 → Nat :=
  let c0_268 : Index := 0#32
  let c64_i32_267 : BitVec 32 := 64#32
  let v490 : BitVec 32 := Scalar.muli v489 c64_i32_267
  let v491 : Index := Scalar.indexCast v490
  let c0_269 : Index := 0#32
  ![0, v491.toNat, 0]

def k0_chk62 (v489 : BitVec 32) : Prop :=
  (∀ a, (k0_off124 v489) a + S1x64x64.size a ≤ S1x4096x64.size a)
theorem k0_off124_inb : ∀ (v489 : BitVec 32) (k0_hw62 : k0_chk62 v489), ∀ a, (k0_off124 v489) a + S1x64x64.size a ≤ S1x4096x64.size a := fun v489 k0_hw62 => k0_hw62

def k0_off125 (i : grid0.Coords) : Fin 3 → Nat :=
  let arg0 : BitVec 32 := BitVec.ofNat 32 (i 0).val
  let v494 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v495 : Index := Scalar.indexCast v388
  let c6_270 : Index := 6#32
  ![v494.toNat, v495.toNat, 6]
def k0_off126 (v496 : BitVec 32) : Fin 3 → Nat :=
  let c0_272 : Index := 0#32
  let c64_i32_271 : BitVec 32 := 64#32
  let v497 : BitVec 32 := Scalar.muli v496 c64_i32_271
  let v498 : Index := Scalar.indexCast v497
  let c0_273 : Index := 0#32
  ![0, v498.toNat, 0]

def k0_chk63 (v496 : BitVec 32) : Prop :=
  (∀ a, (k0_off126 v496) a + S1x64x64.size a ≤ S1x4096x64.size a)
theorem k0_off126_inb : ∀ (v496 : BitVec 32) (k0_hw63 : k0_chk63 v496), ∀ a, (k0_off126 v496) a + S1x64x64.size a ≤ S1x4096x64.size a := fun v496 k0_hw63 => k0_hw63

def k0_off127 (i : grid0.Coords) : Fin 3 → Nat :=
  let arg0 : BitVec 32 := BitVec.ofNat 32 (i 0).val
  let v501 : Index := Scalar.indexCast arg0
  let arg1 : BitVec 32 := BitVec.ofNat 32 (i 1).val
  let c8_i32_209 : BitVec 32 := 8#32
  let v387 : BitVec 32 := Scalar.muli arg1 c8_i32_209
  let c3_i32 : BitVec 32 := 3#32
  let v388 : BitVec 32 := Scalar.addi v387 c3_i32
  let v502 : Index := Scalar.indexCast v388
  let c7_274 : Index := 7#32
  ![v501.toNat, v502.toNat, 7]
def k0_off128 (v503 : BitVec 32) : Fin 3 → Nat :=
  let c0_276 : Index := 0#32
  let c64_i32_275 : BitVec 32 := 64#32
  let v504 : BitVec 32 := Scalar.muli v503 c64_i32_275
  let v505 : Index := Scalar.indexCast v504
  let c0_277 : Index := 0#32
  ![0, v505.toNat, 0]

def k0_chk64 (v503 : BitVec 32) : Prop :=
  (∀ a, (k0_off128 v503) a + S1x64x64.size a ≤ S1x4096x64.size a)
theorem k0_off128_inb : ∀ (v503 : BitVec 32) (k0_hw64 : k0_chk64 v503), ∀ a, (k0_off128 v503) a + S1x64x64.size a ≤ S1x4096x64.size a := fun v503 k0_hw64 => k0_hw64

def k0_off129 (i : grid0.Coords) : Fin 3 → Nat :=
  let arg0 : BitVec 32 := BitVec.ofNat 32 (i 0).val
  let v520 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v521 : Index := Scalar.indexCast v517
  let c0_285 : Index := 0#32
  ![v520.toNat, v521.toNat, 0]
def k0_off130 (v522 : BitVec 32) : Fin 3 → Nat :=
  let c0_287 : Index := 0#32
  let c64_i32_286 : BitVec 32 := 64#32
  let v523 : BitVec 32 := Scalar.muli v522 c64_i32_286
  let v524 : Index := Scalar.indexCast v523
  let c0_288 : Index := 0#32
  ![0, v524.toNat, 0]

def k0_chk65 (v522 : BitVec 32) : Prop :=
  (∀ a, (k0_off130 v522) a + S1x64x64.size a ≤ S1x4096x64.size a)
theorem k0_off130_inb : ∀ (v522 : BitVec 32) (k0_hw65 : k0_chk65 v522), ∀ a, (k0_off130 v522) a + S1x64x64.size a ≤ S1x4096x64.size a := fun v522 k0_hw65 => k0_hw65

def k0_off131 (i : grid0.Coords) : Fin 3 → Nat :=
  let arg0 : BitVec 32 := BitVec.ofNat 32 (i 0).val
  let v527 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v528 : Index := Scalar.indexCast v517
  let c1_289 : Index := 1#32
  ![v527.toNat, v528.toNat, 1]
def k0_off132 (v529 : BitVec 32) : Fin 3 → Nat :=
  let c0_291 : Index := 0#32
  let c64_i32_290 : BitVec 32 := 64#32
  let v530 : BitVec 32 := Scalar.muli v529 c64_i32_290
  let v531 : Index := Scalar.indexCast v530
  let c0_292 : Index := 0#32
  ![0, v531.toNat, 0]

def k0_chk66 (v529 : BitVec 32) : Prop :=
  (∀ a, (k0_off132 v529) a + S1x64x64.size a ≤ S1x4096x64.size a)
theorem k0_off132_inb : ∀ (v529 : BitVec 32) (k0_hw66 : k0_chk66 v529), ∀ a, (k0_off132 v529) a + S1x64x64.size a ≤ S1x4096x64.size a := fun v529 k0_hw66 => k0_hw66

def k0_off133 (i : grid0.Coords) : Fin 3 → Nat :=
  let arg0 : BitVec 32 := BitVec.ofNat 32 (i 0).val
  let v534 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v535 : Index := Scalar.indexCast v517
  let c2_293 : Index := 2#32
  ![v534.toNat, v535.toNat, 2]
def k0_off134 (v536 : BitVec 32) : Fin 3 → Nat :=
  let c0_295 : Index := 0#32
  let c64_i32_294 : BitVec 32 := 64#32
  let v537 : BitVec 32 := Scalar.muli v536 c64_i32_294
  let v538 : Index := Scalar.indexCast v537
  let c0_296 : Index := 0#32
  ![0, v538.toNat, 0]

def k0_chk67 (v536 : BitVec 32) : Prop :=
  (∀ a, (k0_off134 v536) a + S1x64x64.size a ≤ S1x4096x64.size a)
theorem k0_off134_inb : ∀ (v536 : BitVec 32) (k0_hw67 : k0_chk67 v536), ∀ a, (k0_off134 v536) a + S1x64x64.size a ≤ S1x4096x64.size a := fun v536 k0_hw67 => k0_hw67

def k0_off135 (i : grid0.Coords) : Fin 3 → Nat :=
  let arg0 : BitVec 32 := BitVec.ofNat 32 (i 0).val
  let v541 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v542 : Index := Scalar.indexCast v517
  let c3_297 : Index := 3#32
  ![v541.toNat, v542.toNat, 3]
def k0_off136 (v543 : BitVec 32) : Fin 3 → Nat :=
  let c0_299 : Index := 0#32
  let c64_i32_298 : BitVec 32 := 64#32
  let v544 : BitVec 32 := Scalar.muli v543 c64_i32_298
  let v545 : Index := Scalar.indexCast v544
  let c0_300 : Index := 0#32
  ![0, v545.toNat, 0]

def k0_chk68 (v543 : BitVec 32) : Prop :=
  (∀ a, (k0_off136 v543) a + S1x64x64.size a ≤ S1x4096x64.size a)
theorem k0_off136_inb : ∀ (v543 : BitVec 32) (k0_hw68 : k0_chk68 v543), ∀ a, (k0_off136 v543) a + S1x64x64.size a ≤ S1x4096x64.size a := fun v543 k0_hw68 => k0_hw68

def k0_off137 (i : grid0.Coords) : Fin 3 → Nat :=
  let arg0 : BitVec 32 := BitVec.ofNat 32 (i 0).val
  let v548 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v549 : Index := Scalar.indexCast v517
  let c4_301 : Index := 4#32
  ![v548.toNat, v549.toNat, 4]
def k0_off138 (v550 : BitVec 32) : Fin 3 → Nat :=
  let c0_303 : Index := 0#32
  let c64_i32_302 : BitVec 32 := 64#32
  let v551 : BitVec 32 := Scalar.muli v550 c64_i32_302
  let v552 : Index := Scalar.indexCast v551
  let c0_304 : Index := 0#32
  ![0, v552.toNat, 0]

def k0_chk69 (v550 : BitVec 32) : Prop :=
  (∀ a, (k0_off138 v550) a + S1x64x64.size a ≤ S1x4096x64.size a)
theorem k0_off138_inb : ∀ (v550 : BitVec 32) (k0_hw69 : k0_chk69 v550), ∀ a, (k0_off138 v550) a + S1x64x64.size a ≤ S1x4096x64.size a := fun v550 k0_hw69 => k0_hw69

def k0_off139 (i : grid0.Coords) : Fin 3 → Nat :=
  let arg0 : BitVec 32 := BitVec.ofNat 32 (i 0).val
  let v555 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v556 : Index := Scalar.indexCast v517
  let c5_305 : Index := 5#32
  ![v555.toNat, v556.toNat, 5]
def k0_off140 (v557 : BitVec 32) : Fin 3 → Nat :=
  let c0_307 : Index := 0#32
  let c64_i32_306 : BitVec 32 := 64#32
  let v558 : BitVec 32 := Scalar.muli v557 c64_i32_306
  let v559 : Index := Scalar.indexCast v558
  let c0_308 : Index := 0#32
  ![0, v559.toNat, 0]

def k0_chk70 (v557 : BitVec 32) : Prop :=
  (∀ a, (k0_off140 v557) a + S1x64x64.size a ≤ S1x4096x64.size a)
theorem k0_off140_inb : ∀ (v557 : BitVec 32) (k0_hw70 : k0_chk70 v557), ∀ a, (k0_off140 v557) a + S1x64x64.size a ≤ S1x4096x64.size a := fun v557 k0_hw70 => k0_hw70

def k0_off141 (i : grid0.Coords) : Fin 3 → Nat :=
  let arg0 : BitVec 32 := BitVec.ofNat 32 (i 0).val
  let v562 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v563 : Index := Scalar.indexCast v517
  let c6_309 : Index := 6#32
  ![v562.toNat, v563.toNat, 6]
def k0_off142 (v564 : BitVec 32) : Fin 3 → Nat :=
  let c0_311 : Index := 0#32
  let c64_i32_310 : BitVec 32 := 64#32
  let v565 : BitVec 32 := Scalar.muli v564 c64_i32_310
  let v566 : Index := Scalar.indexCast v565
  let c0_312 : Index := 0#32
  ![0, v566.toNat, 0]

def k0_chk71 (v564 : BitVec 32) : Prop :=
  (∀ a, (k0_off142 v564) a + S1x64x64.size a ≤ S1x4096x64.size a)
theorem k0_off142_inb : ∀ (v564 : BitVec 32) (k0_hw71 : k0_chk71 v564), ∀ a, (k0_off142 v564) a + S1x64x64.size a ≤ S1x4096x64.size a := fun v564 k0_hw71 => k0_hw71

def k0_off143 (i : grid0.Coords) : Fin 3 → Nat :=
  let arg0 : BitVec 32 := BitVec.ofNat 32 (i 0).val
  let v569 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v570 : Index := Scalar.indexCast v517
  let c7_313 : Index := 7#32
  ![v569.toNat, v570.toNat, 7]
def k0_off144 (v571 : BitVec 32) : Fin 3 → Nat :=
  let c0_315 : Index := 0#32
  let c64_i32_314 : BitVec 32 := 64#32
  let v572 : BitVec 32 := Scalar.muli v571 c64_i32_314
  let v573 : Index := Scalar.indexCast v572
  let c0_316 : Index := 0#32
  ![0, v573.toNat, 0]

def k0_chk72 (v571 : BitVec 32) : Prop :=
  (∀ a, (k0_off144 v571) a + S1x64x64.size a ≤ S1x4096x64.size a)
theorem k0_off144_inb : ∀ (v571 : BitVec 32) (k0_hw72 : k0_chk72 v571), ∀ a, (k0_off144 v571) a + S1x64x64.size a ≤ S1x4096x64.size a := fun v571 k0_hw72 => k0_hw72

def k0_off145 (i : grid0.Coords) : Fin 3 → Nat :=
  let arg0 : BitVec 32 := BitVec.ofNat 32 (i 0).val
  let v581 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v582 : Index := Scalar.indexCast v517
  let c0_319 : Index := 0#32
  ![v581.toNat, v582.toNat, 0]
def k0_off146 (v583 : BitVec 32) : Fin 3 → Nat :=
  let c0_321 : Index := 0#32
  let c64_i32_320 : BitVec 32 := 64#32
  let v584 : BitVec 32 := Scalar.muli v583 c64_i32_320
  let v585 : Index := Scalar.indexCast v584
  let c0_322 : Index := 0#32
  ![0, v585.toNat, 0]

def k0_chk73 (v583 : BitVec 32) : Prop :=
  (∀ a, (k0_off146 v583) a + S1x64x64.size a ≤ S1x4096x64.size a)
theorem k0_off146_inb : ∀ (v583 : BitVec 32) (k0_hw73 : k0_chk73 v583), ∀ a, (k0_off146 v583) a + S1x64x64.size a ≤ S1x4096x64.size a := fun v583 k0_hw73 => k0_hw73

def k0_off147 (i : grid0.Coords) : Fin 3 → Nat :=
  let arg0 : BitVec 32 := BitVec.ofNat 32 (i 0).val
  let v588 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v589 : Index := Scalar.indexCast v517
  let c1_323 : Index := 1#32
  ![v588.toNat, v589.toNat, 1]
def k0_off148 (v590 : BitVec 32) : Fin 3 → Nat :=
  let c0_325 : Index := 0#32
  let c64_i32_324 : BitVec 32 := 64#32
  let v591 : BitVec 32 := Scalar.muli v590 c64_i32_324
  let v592 : Index := Scalar.indexCast v591
  let c0_326 : Index := 0#32
  ![0, v592.toNat, 0]

def k0_chk74 (v590 : BitVec 32) : Prop :=
  (∀ a, (k0_off148 v590) a + S1x64x64.size a ≤ S1x4096x64.size a)
theorem k0_off148_inb : ∀ (v590 : BitVec 32) (k0_hw74 : k0_chk74 v590), ∀ a, (k0_off148 v590) a + S1x64x64.size a ≤ S1x4096x64.size a := fun v590 k0_hw74 => k0_hw74

def k0_off149 (i : grid0.Coords) : Fin 3 → Nat :=
  let arg0 : BitVec 32 := BitVec.ofNat 32 (i 0).val
  let v595 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v596 : Index := Scalar.indexCast v517
  let c2_327 : Index := 2#32
  ![v595.toNat, v596.toNat, 2]
def k0_off150 (v597 : BitVec 32) : Fin 3 → Nat :=
  let c0_329 : Index := 0#32
  let c64_i32_328 : BitVec 32 := 64#32
  let v598 : BitVec 32 := Scalar.muli v597 c64_i32_328
  let v599 : Index := Scalar.indexCast v598
  let c0_330 : Index := 0#32
  ![0, v599.toNat, 0]

def k0_chk75 (v597 : BitVec 32) : Prop :=
  (∀ a, (k0_off150 v597) a + S1x64x64.size a ≤ S1x4096x64.size a)
theorem k0_off150_inb : ∀ (v597 : BitVec 32) (k0_hw75 : k0_chk75 v597), ∀ a, (k0_off150 v597) a + S1x64x64.size a ≤ S1x4096x64.size a := fun v597 k0_hw75 => k0_hw75

def k0_off151 (i : grid0.Coords) : Fin 3 → Nat :=
  let arg0 : BitVec 32 := BitVec.ofNat 32 (i 0).val
  let v602 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v603 : Index := Scalar.indexCast v517
  let c3_331 : Index := 3#32
  ![v602.toNat, v603.toNat, 3]
def k0_off152 (v604 : BitVec 32) : Fin 3 → Nat :=
  let c0_333 : Index := 0#32
  let c64_i32_332 : BitVec 32 := 64#32
  let v605 : BitVec 32 := Scalar.muli v604 c64_i32_332
  let v606 : Index := Scalar.indexCast v605
  let c0_334 : Index := 0#32
  ![0, v606.toNat, 0]

def k0_chk76 (v604 : BitVec 32) : Prop :=
  (∀ a, (k0_off152 v604) a + S1x64x64.size a ≤ S1x4096x64.size a)
theorem k0_off152_inb : ∀ (v604 : BitVec 32) (k0_hw76 : k0_chk76 v604), ∀ a, (k0_off152 v604) a + S1x64x64.size a ≤ S1x4096x64.size a := fun v604 k0_hw76 => k0_hw76

def k0_off153 (i : grid0.Coords) : Fin 3 → Nat :=
  let arg0 : BitVec 32 := BitVec.ofNat 32 (i 0).val
  let v609 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v610 : Index := Scalar.indexCast v517
  let c4_335 : Index := 4#32
  ![v609.toNat, v610.toNat, 4]
def k0_off154 (v611 : BitVec 32) : Fin 3 → Nat :=
  let c0_337 : Index := 0#32
  let c64_i32_336 : BitVec 32 := 64#32
  let v612 : BitVec 32 := Scalar.muli v611 c64_i32_336
  let v613 : Index := Scalar.indexCast v612
  let c0_338 : Index := 0#32
  ![0, v613.toNat, 0]

def k0_chk77 (v611 : BitVec 32) : Prop :=
  (∀ a, (k0_off154 v611) a + S1x64x64.size a ≤ S1x4096x64.size a)
theorem k0_off154_inb : ∀ (v611 : BitVec 32) (k0_hw77 : k0_chk77 v611), ∀ a, (k0_off154 v611) a + S1x64x64.size a ≤ S1x4096x64.size a := fun v611 k0_hw77 => k0_hw77

def k0_off155 (i : grid0.Coords) : Fin 3 → Nat :=
  let arg0 : BitVec 32 := BitVec.ofNat 32 (i 0).val
  let v616 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v617 : Index := Scalar.indexCast v517
  let c5_339 : Index := 5#32
  ![v616.toNat, v617.toNat, 5]
def k0_off156 (v618 : BitVec 32) : Fin 3 → Nat :=
  let c0_341 : Index := 0#32
  let c64_i32_340 : BitVec 32 := 64#32
  let v619 : BitVec 32 := Scalar.muli v618 c64_i32_340
  let v620 : Index := Scalar.indexCast v619
  let c0_342 : Index := 0#32
  ![0, v620.toNat, 0]

def k0_chk78 (v618 : BitVec 32) : Prop :=
  (∀ a, (k0_off156 v618) a + S1x64x64.size a ≤ S1x4096x64.size a)
theorem k0_off156_inb : ∀ (v618 : BitVec 32) (k0_hw78 : k0_chk78 v618), ∀ a, (k0_off156 v618) a + S1x64x64.size a ≤ S1x4096x64.size a := fun v618 k0_hw78 => k0_hw78

def k0_off157 (i : grid0.Coords) : Fin 3 → Nat :=
  let arg0 : BitVec 32 := BitVec.ofNat 32 (i 0).val
  let v623 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v624 : Index := Scalar.indexCast v517
  let c6_343 : Index := 6#32
  ![v623.toNat, v624.toNat, 6]
def k0_off158 (v625 : BitVec 32) : Fin 3 → Nat :=
  let c0_345 : Index := 0#32
  let c64_i32_344 : BitVec 32 := 64#32
  let v626 : BitVec 32 := Scalar.muli v625 c64_i32_344
  let v627 : Index := Scalar.indexCast v626
  let c0_346 : Index := 0#32
  ![0, v627.toNat, 0]

def k0_chk79 (v625 : BitVec 32) : Prop :=
  (∀ a, (k0_off158 v625) a + S1x64x64.size a ≤ S1x4096x64.size a)
theorem k0_off158_inb : ∀ (v625 : BitVec 32) (k0_hw79 : k0_chk79 v625), ∀ a, (k0_off158 v625) a + S1x64x64.size a ≤ S1x4096x64.size a := fun v625 k0_hw79 => k0_hw79

def k0_off159 (i : grid0.Coords) : Fin 3 → Nat :=
  let arg0 : BitVec 32 := BitVec.ofNat 32 (i 0).val
  let v630 : Index := Scalar.indexCast arg0
  let arg1 : BitVec 32 := BitVec.ofNat 32 (i 1).val
  let c8_i32_282 : BitVec 32 := 8#32
  let v516 : BitVec 32 := Scalar.muli arg1 c8_i32_282
  let c4_i32 : BitVec 32 := 4#32
  let v517 : BitVec 32 := Scalar.addi v516 c4_i32
  let v631 : Index := Scalar.indexCast v517
  let c7_347 : Index := 7#32
  ![v630.toNat, v631.toNat, 7]
def k0_off160 (v632 : BitVec 32) : Fin 3 → Nat :=
  let c0_349 : Index := 0#32
  let c64_i32_348 : BitVec 32 := 64#32
  let v633 : BitVec 32 := Scalar.muli v632 c64_i32_348
  let v634 : Index := Scalar.indexCast v633
  let c0_350 : Index := 0#32
  ![0, v634.toNat, 0]

def k0_chk80 (v632 : BitVec 32) : Prop :=
  (∀ a, (k0_off160 v632) a + S1x64x64.size a ≤ S1x4096x64.size a)
theorem k0_off160_inb : ∀ (v632 : BitVec 32) (k0_hw80 : k0_chk80 v632), ∀ a, (k0_off160 v632) a + S1x64x64.size a ≤ S1x4096x64.size a := fun v632 k0_hw80 => k0_hw80

def k0_off161 (i : grid0.Coords) : Fin 3 → Nat :=
  let arg0 : BitVec 32 := BitVec.ofNat 32 (i 0).val
  let v649 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v650 : Index := Scalar.indexCast v646
  let c0_358 : Index := 0#32
  ![v649.toNat, v650.toNat, 0]
def k0_off162 (v651 : BitVec 32) : Fin 3 → Nat :=
  let c0_360 : Index := 0#32
  let c64_i32_359 : BitVec 32 := 64#32
  let v652 : BitVec 32 := Scalar.muli v651 c64_i32_359
  let v653 : Index := Scalar.indexCast v652
  let c0_361 : Index := 0#32
  ![0, v653.toNat, 0]

def k0_chk81 (v651 : BitVec 32) : Prop :=
  (∀ a, (k0_off162 v651) a + S1x64x64.size a ≤ S1x4096x64.size a)
theorem k0_off162_inb : ∀ (v651 : BitVec 32) (k0_hw81 : k0_chk81 v651), ∀ a, (k0_off162 v651) a + S1x64x64.size a ≤ S1x4096x64.size a := fun v651 k0_hw81 => k0_hw81

def k0_off163 (i : grid0.Coords) : Fin 3 → Nat :=
  let arg0 : BitVec 32 := BitVec.ofNat 32 (i 0).val
  let v656 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v657 : Index := Scalar.indexCast v646
  let c1_362 : Index := 1#32
  ![v656.toNat, v657.toNat, 1]
def k0_off164 (v658 : BitVec 32) : Fin 3 → Nat :=
  let c0_364 : Index := 0#32
  let c64_i32_363 : BitVec 32 := 64#32
  let v659 : BitVec 32 := Scalar.muli v658 c64_i32_363
  let v660 : Index := Scalar.indexCast v659
  let c0_365 : Index := 0#32
  ![0, v660.toNat, 0]

def k0_chk82 (v658 : BitVec 32) : Prop :=
  (∀ a, (k0_off164 v658) a + S1x64x64.size a ≤ S1x4096x64.size a)
theorem k0_off164_inb : ∀ (v658 : BitVec 32) (k0_hw82 : k0_chk82 v658), ∀ a, (k0_off164 v658) a + S1x64x64.size a ≤ S1x4096x64.size a := fun v658 k0_hw82 => k0_hw82

def k0_off165 (i : grid0.Coords) : Fin 3 → Nat :=
  let arg0 : BitVec 32 := BitVec.ofNat 32 (i 0).val
  let v663 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v664 : Index := Scalar.indexCast v646
  let c2_366 : Index := 2#32
  ![v663.toNat, v664.toNat, 2]
def k0_off166 (v665 : BitVec 32) : Fin 3 → Nat :=
  let c0_368 : Index := 0#32
  let c64_i32_367 : BitVec 32 := 64#32
  let v666 : BitVec 32 := Scalar.muli v665 c64_i32_367
  let v667 : Index := Scalar.indexCast v666
  let c0_369 : Index := 0#32
  ![0, v667.toNat, 0]

def k0_chk83 (v665 : BitVec 32) : Prop :=
  (∀ a, (k0_off166 v665) a + S1x64x64.size a ≤ S1x4096x64.size a)
theorem k0_off166_inb : ∀ (v665 : BitVec 32) (k0_hw83 : k0_chk83 v665), ∀ a, (k0_off166 v665) a + S1x64x64.size a ≤ S1x4096x64.size a := fun v665 k0_hw83 => k0_hw83

def k0_off167 (i : grid0.Coords) : Fin 3 → Nat :=
  let arg0 : BitVec 32 := BitVec.ofNat 32 (i 0).val
  let v670 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v671 : Index := Scalar.indexCast v646
  let c3_370 : Index := 3#32
  ![v670.toNat, v671.toNat, 3]
def k0_off168 (v672 : BitVec 32) : Fin 3 → Nat :=
  let c0_372 : Index := 0#32
  let c64_i32_371 : BitVec 32 := 64#32
  let v673 : BitVec 32 := Scalar.muli v672 c64_i32_371
  let v674 : Index := Scalar.indexCast v673
  let c0_373 : Index := 0#32
  ![0, v674.toNat, 0]

def k0_chk84 (v672 : BitVec 32) : Prop :=
  (∀ a, (k0_off168 v672) a + S1x64x64.size a ≤ S1x4096x64.size a)
theorem k0_off168_inb : ∀ (v672 : BitVec 32) (k0_hw84 : k0_chk84 v672), ∀ a, (k0_off168 v672) a + S1x64x64.size a ≤ S1x4096x64.size a := fun v672 k0_hw84 => k0_hw84

def k0_off169 (i : grid0.Coords) : Fin 3 → Nat :=
  let arg0 : BitVec 32 := BitVec.ofNat 32 (i 0).val
  let v677 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v678 : Index := Scalar.indexCast v646
  let c4_374 : Index := 4#32
  ![v677.toNat, v678.toNat, 4]
def k0_off170 (v679 : BitVec 32) : Fin 3 → Nat :=
  let c0_376 : Index := 0#32
  let c64_i32_375 : BitVec 32 := 64#32
  let v680 : BitVec 32 := Scalar.muli v679 c64_i32_375
  let v681 : Index := Scalar.indexCast v680
  let c0_377 : Index := 0#32
  ![0, v681.toNat, 0]

def k0_chk85 (v679 : BitVec 32) : Prop :=
  (∀ a, (k0_off170 v679) a + S1x64x64.size a ≤ S1x4096x64.size a)
theorem k0_off170_inb : ∀ (v679 : BitVec 32) (k0_hw85 : k0_chk85 v679), ∀ a, (k0_off170 v679) a + S1x64x64.size a ≤ S1x4096x64.size a := fun v679 k0_hw85 => k0_hw85

def k0_off171 (i : grid0.Coords) : Fin 3 → Nat :=
  let arg0 : BitVec 32 := BitVec.ofNat 32 (i 0).val
  let v684 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v685 : Index := Scalar.indexCast v646
  let c5_378 : Index := 5#32
  ![v684.toNat, v685.toNat, 5]
def k0_off172 (v686 : BitVec 32) : Fin 3 → Nat :=
  let c0_380 : Index := 0#32
  let c64_i32_379 : BitVec 32 := 64#32
  let v687 : BitVec 32 := Scalar.muli v686 c64_i32_379
  let v688 : Index := Scalar.indexCast v687
  let c0_381 : Index := 0#32
  ![0, v688.toNat, 0]

def k0_chk86 (v686 : BitVec 32) : Prop :=
  (∀ a, (k0_off172 v686) a + S1x64x64.size a ≤ S1x4096x64.size a)
theorem k0_off172_inb : ∀ (v686 : BitVec 32) (k0_hw86 : k0_chk86 v686), ∀ a, (k0_off172 v686) a + S1x64x64.size a ≤ S1x4096x64.size a := fun v686 k0_hw86 => k0_hw86

def k0_off173 (i : grid0.Coords) : Fin 3 → Nat :=
  let arg0 : BitVec 32 := BitVec.ofNat 32 (i 0).val
  let v691 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v692 : Index := Scalar.indexCast v646
  let c6_382 : Index := 6#32
  ![v691.toNat, v692.toNat, 6]
def k0_off174 (v693 : BitVec 32) : Fin 3 → Nat :=
  let c0_384 : Index := 0#32
  let c64_i32_383 : BitVec 32 := 64#32
  let v694 : BitVec 32 := Scalar.muli v693 c64_i32_383
  let v695 : Index := Scalar.indexCast v694
  let c0_385 : Index := 0#32
  ![0, v695.toNat, 0]

def k0_chk87 (v693 : BitVec 32) : Prop :=
  (∀ a, (k0_off174 v693) a + S1x64x64.size a ≤ S1x4096x64.size a)
theorem k0_off174_inb : ∀ (v693 : BitVec 32) (k0_hw87 : k0_chk87 v693), ∀ a, (k0_off174 v693) a + S1x64x64.size a ≤ S1x4096x64.size a := fun v693 k0_hw87 => k0_hw87

def k0_off175 (i : grid0.Coords) : Fin 3 → Nat :=
  let arg0 : BitVec 32 := BitVec.ofNat 32 (i 0).val
  let v698 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v699 : Index := Scalar.indexCast v646
  let c7_386 : Index := 7#32
  ![v698.toNat, v699.toNat, 7]
def k0_off176 (v700 : BitVec 32) : Fin 3 → Nat :=
  let c0_388 : Index := 0#32
  let c64_i32_387 : BitVec 32 := 64#32
  let v701 : BitVec 32 := Scalar.muli v700 c64_i32_387
  let v702 : Index := Scalar.indexCast v701
  let c0_389 : Index := 0#32
  ![0, v702.toNat, 0]

def k0_chk88 (v700 : BitVec 32) : Prop :=
  (∀ a, (k0_off176 v700) a + S1x64x64.size a ≤ S1x4096x64.size a)
theorem k0_off176_inb : ∀ (v700 : BitVec 32) (k0_hw88 : k0_chk88 v700), ∀ a, (k0_off176 v700) a + S1x64x64.size a ≤ S1x4096x64.size a := fun v700 k0_hw88 => k0_hw88

def k0_off177 (i : grid0.Coords) : Fin 3 → Nat :=
  let arg0 : BitVec 32 := BitVec.ofNat 32 (i 0).val
  let v710 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v711 : Index := Scalar.indexCast v646
  let c0_392 : Index := 0#32
  ![v710.toNat, v711.toNat, 0]
def k0_off178 (v712 : BitVec 32) : Fin 3 → Nat :=
  let c0_394 : Index := 0#32
  let c64_i32_393 : BitVec 32 := 64#32
  let v713 : BitVec 32 := Scalar.muli v712 c64_i32_393
  let v714 : Index := Scalar.indexCast v713
  let c0_395 : Index := 0#32
  ![0, v714.toNat, 0]

def k0_chk89 (v712 : BitVec 32) : Prop :=
  (∀ a, (k0_off178 v712) a + S1x64x64.size a ≤ S1x4096x64.size a)
theorem k0_off178_inb : ∀ (v712 : BitVec 32) (k0_hw89 : k0_chk89 v712), ∀ a, (k0_off178 v712) a + S1x64x64.size a ≤ S1x4096x64.size a := fun v712 k0_hw89 => k0_hw89

def k0_off179 (i : grid0.Coords) : Fin 3 → Nat :=
  let arg0 : BitVec 32 := BitVec.ofNat 32 (i 0).val
  let v717 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v718 : Index := Scalar.indexCast v646
  let c1_396 : Index := 1#32
  ![v717.toNat, v718.toNat, 1]
def k0_off180 (v719 : BitVec 32) : Fin 3 → Nat :=
  let c0_398 : Index := 0#32
  let c64_i32_397 : BitVec 32 := 64#32
  let v720 : BitVec 32 := Scalar.muli v719 c64_i32_397
  let v721 : Index := Scalar.indexCast v720
  let c0_399 : Index := 0#32
  ![0, v721.toNat, 0]

def k0_chk90 (v719 : BitVec 32) : Prop :=
  (∀ a, (k0_off180 v719) a + S1x64x64.size a ≤ S1x4096x64.size a)
theorem k0_off180_inb : ∀ (v719 : BitVec 32) (k0_hw90 : k0_chk90 v719), ∀ a, (k0_off180 v719) a + S1x64x64.size a ≤ S1x4096x64.size a := fun v719 k0_hw90 => k0_hw90

def k0_off181 (i : grid0.Coords) : Fin 3 → Nat :=
  let arg0 : BitVec 32 := BitVec.ofNat 32 (i 0).val
  let v724 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v725 : Index := Scalar.indexCast v646
  let c2_400 : Index := 2#32
  ![v724.toNat, v725.toNat, 2]
def k0_off182 (v726 : BitVec 32) : Fin 3 → Nat :=
  let c0_402 : Index := 0#32
  let c64_i32_401 : BitVec 32 := 64#32
  let v727 : BitVec 32 := Scalar.muli v726 c64_i32_401
  let v728 : Index := Scalar.indexCast v727
  let c0_403 : Index := 0#32
  ![0, v728.toNat, 0]

def k0_chk91 (v726 : BitVec 32) : Prop :=
  (∀ a, (k0_off182 v726) a + S1x64x64.size a ≤ S1x4096x64.size a)
theorem k0_off182_inb : ∀ (v726 : BitVec 32) (k0_hw91 : k0_chk91 v726), ∀ a, (k0_off182 v726) a + S1x64x64.size a ≤ S1x4096x64.size a := fun v726 k0_hw91 => k0_hw91

def k0_off183 (i : grid0.Coords) : Fin 3 → Nat :=
  let arg0 : BitVec 32 := BitVec.ofNat 32 (i 0).val
  let v731 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v732 : Index := Scalar.indexCast v646
  let c3_404 : Index := 3#32
  ![v731.toNat, v732.toNat, 3]
def k0_off184 (v733 : BitVec 32) : Fin 3 → Nat :=
  let c0_406 : Index := 0#32
  let c64_i32_405 : BitVec 32 := 64#32
  let v734 : BitVec 32 := Scalar.muli v733 c64_i32_405
  let v735 : Index := Scalar.indexCast v734
  let c0_407 : Index := 0#32
  ![0, v735.toNat, 0]

def k0_chk92 (v733 : BitVec 32) : Prop :=
  (∀ a, (k0_off184 v733) a + S1x64x64.size a ≤ S1x4096x64.size a)
theorem k0_off184_inb : ∀ (v733 : BitVec 32) (k0_hw92 : k0_chk92 v733), ∀ a, (k0_off184 v733) a + S1x64x64.size a ≤ S1x4096x64.size a := fun v733 k0_hw92 => k0_hw92

def k0_off185 (i : grid0.Coords) : Fin 3 → Nat :=
  let arg0 : BitVec 32 := BitVec.ofNat 32 (i 0).val
  let v738 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v739 : Index := Scalar.indexCast v646
  let c4_408 : Index := 4#32
  ![v738.toNat, v739.toNat, 4]
def k0_off186 (v740 : BitVec 32) : Fin 3 → Nat :=
  let c0_410 : Index := 0#32
  let c64_i32_409 : BitVec 32 := 64#32
  let v741 : BitVec 32 := Scalar.muli v740 c64_i32_409
  let v742 : Index := Scalar.indexCast v741
  let c0_411 : Index := 0#32
  ![0, v742.toNat, 0]

def k0_chk93 (v740 : BitVec 32) : Prop :=
  (∀ a, (k0_off186 v740) a + S1x64x64.size a ≤ S1x4096x64.size a)
theorem k0_off186_inb : ∀ (v740 : BitVec 32) (k0_hw93 : k0_chk93 v740), ∀ a, (k0_off186 v740) a + S1x64x64.size a ≤ S1x4096x64.size a := fun v740 k0_hw93 => k0_hw93

def k0_off187 (i : grid0.Coords) : Fin 3 → Nat :=
  let arg0 : BitVec 32 := BitVec.ofNat 32 (i 0).val
  let v745 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v746 : Index := Scalar.indexCast v646
  let c5_412 : Index := 5#32
  ![v745.toNat, v746.toNat, 5]
def k0_off188 (v747 : BitVec 32) : Fin 3 → Nat :=
  let c0_414 : Index := 0#32
  let c64_i32_413 : BitVec 32 := 64#32
  let v748 : BitVec 32 := Scalar.muli v747 c64_i32_413
  let v749 : Index := Scalar.indexCast v748
  let c0_415 : Index := 0#32
  ![0, v749.toNat, 0]

def k0_chk94 (v747 : BitVec 32) : Prop :=
  (∀ a, (k0_off188 v747) a + S1x64x64.size a ≤ S1x4096x64.size a)
theorem k0_off188_inb : ∀ (v747 : BitVec 32) (k0_hw94 : k0_chk94 v747), ∀ a, (k0_off188 v747) a + S1x64x64.size a ≤ S1x4096x64.size a := fun v747 k0_hw94 => k0_hw94

def k0_off189 (i : grid0.Coords) : Fin 3 → Nat :=
  let arg0 : BitVec 32 := BitVec.ofNat 32 (i 0).val
  let v752 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v753 : Index := Scalar.indexCast v646
  let c6_416 : Index := 6#32
  ![v752.toNat, v753.toNat, 6]
def k0_off190 (v754 : BitVec 32) : Fin 3 → Nat :=
  let c0_418 : Index := 0#32
  let c64_i32_417 : BitVec 32 := 64#32
  let v755 : BitVec 32 := Scalar.muli v754 c64_i32_417
  let v756 : Index := Scalar.indexCast v755
  let c0_419 : Index := 0#32
  ![0, v756.toNat, 0]

def k0_chk95 (v754 : BitVec 32) : Prop :=
  (∀ a, (k0_off190 v754) a + S1x64x64.size a ≤ S1x4096x64.size a)
theorem k0_off190_inb : ∀ (v754 : BitVec 32) (k0_hw95 : k0_chk95 v754), ∀ a, (k0_off190 v754) a + S1x64x64.size a ≤ S1x4096x64.size a := fun v754 k0_hw95 => k0_hw95

def k0_off191 (i : grid0.Coords) : Fin 3 → Nat :=
  let arg0 : BitVec 32 := BitVec.ofNat 32 (i 0).val
  let v759 : Index := Scalar.indexCast arg0
  let arg1 : BitVec 32 := BitVec.ofNat 32 (i 1).val
  let c8_i32_355 : BitVec 32 := 8#32
  let v645 : BitVec 32 := Scalar.muli arg1 c8_i32_355
  let c5_i32 : BitVec 32 := 5#32
  let v646 : BitVec 32 := Scalar.addi v645 c5_i32
  let v760 : Index := Scalar.indexCast v646
  let c7_420 : Index := 7#32
  ![v759.toNat, v760.toNat, 7]
def k0_off192 (v761 : BitVec 32) : Fin 3 → Nat :=
  let c0_422 : Index := 0#32
  let c64_i32_421 : BitVec 32 := 64#32
  let v762 : BitVec 32 := Scalar.muli v761 c64_i32_421
  let v763 : Index := Scalar.indexCast v762
  let c0_423 : Index := 0#32
  ![0, v763.toNat, 0]

def k0_chk96 (v761 : BitVec 32) : Prop :=
  (∀ a, (k0_off192 v761) a + S1x64x64.size a ≤ S1x4096x64.size a)
theorem k0_off192_inb : ∀ (v761 : BitVec 32) (k0_hw96 : k0_chk96 v761), ∀ a, (k0_off192 v761) a + S1x64x64.size a ≤ S1x4096x64.size a := fun v761 k0_hw96 => k0_hw96

def k0_off193 (i : grid0.Coords) : Fin 3 → Nat :=
  let arg0 : BitVec 32 := BitVec.ofNat 32 (i 0).val
  let v778 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v779 : Index := Scalar.indexCast v775
  let c0_431 : Index := 0#32
  ![v778.toNat, v779.toNat, 0]
def k0_off194 (v780 : BitVec 32) : Fin 3 → Nat :=
  let c0_433 : Index := 0#32
  let c64_i32_432 : BitVec 32 := 64#32
  let v781 : BitVec 32 := Scalar.muli v780 c64_i32_432
  let v782 : Index := Scalar.indexCast v781
  let c0_434 : Index := 0#32
  ![0, v782.toNat, 0]

def k0_chk97 (v780 : BitVec 32) : Prop :=
  (∀ a, (k0_off194 v780) a + S1x64x64.size a ≤ S1x4096x64.size a)
theorem k0_off194_inb : ∀ (v780 : BitVec 32) (k0_hw97 : k0_chk97 v780), ∀ a, (k0_off194 v780) a + S1x64x64.size a ≤ S1x4096x64.size a := fun v780 k0_hw97 => k0_hw97

def k0_off195 (i : grid0.Coords) : Fin 3 → Nat :=
  let arg0 : BitVec 32 := BitVec.ofNat 32 (i 0).val
  let v785 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v786 : Index := Scalar.indexCast v775
  let c1_435 : Index := 1#32
  ![v785.toNat, v786.toNat, 1]
def k0_off196 (v787 : BitVec 32) : Fin 3 → Nat :=
  let c0_437 : Index := 0#32
  let c64_i32_436 : BitVec 32 := 64#32
  let v788 : BitVec 32 := Scalar.muli v787 c64_i32_436
  let v789 : Index := Scalar.indexCast v788
  let c0_438 : Index := 0#32
  ![0, v789.toNat, 0]

def k0_chk98 (v787 : BitVec 32) : Prop :=
  (∀ a, (k0_off196 v787) a + S1x64x64.size a ≤ S1x4096x64.size a)
theorem k0_off196_inb : ∀ (v787 : BitVec 32) (k0_hw98 : k0_chk98 v787), ∀ a, (k0_off196 v787) a + S1x64x64.size a ≤ S1x4096x64.size a := fun v787 k0_hw98 => k0_hw98

def k0_off197 (i : grid0.Coords) : Fin 3 → Nat :=
  let arg0 : BitVec 32 := BitVec.ofNat 32 (i 0).val
  let v792 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v793 : Index := Scalar.indexCast v775
  let c2_439 : Index := 2#32
  ![v792.toNat, v793.toNat, 2]
def k0_off198 (v794 : BitVec 32) : Fin 3 → Nat :=
  let c0_441 : Index := 0#32
  let c64_i32_440 : BitVec 32 := 64#32
  let v795 : BitVec 32 := Scalar.muli v794 c64_i32_440
  let v796 : Index := Scalar.indexCast v795
  let c0_442 : Index := 0#32
  ![0, v796.toNat, 0]

def k0_chk99 (v794 : BitVec 32) : Prop :=
  (∀ a, (k0_off198 v794) a + S1x64x64.size a ≤ S1x4096x64.size a)
theorem k0_off198_inb : ∀ (v794 : BitVec 32) (k0_hw99 : k0_chk99 v794), ∀ a, (k0_off198 v794) a + S1x64x64.size a ≤ S1x4096x64.size a := fun v794 k0_hw99 => k0_hw99

def k0_off199 (i : grid0.Coords) : Fin 3 → Nat :=
  let arg0 : BitVec 32 := BitVec.ofNat 32 (i 0).val
  let v799 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v800 : Index := Scalar.indexCast v775
  let c3_443 : Index := 3#32
  ![v799.toNat, v800.toNat, 3]
def k0_off200 (v801 : BitVec 32) : Fin 3 → Nat :=
  let c0_445 : Index := 0#32
  let c64_i32_444 : BitVec 32 := 64#32
  let v802 : BitVec 32 := Scalar.muli v801 c64_i32_444
  let v803 : Index := Scalar.indexCast v802
  let c0_446 : Index := 0#32
  ![0, v803.toNat, 0]

def k0_chk100 (v801 : BitVec 32) : Prop :=
  (∀ a, (k0_off200 v801) a + S1x64x64.size a ≤ S1x4096x64.size a)
theorem k0_off200_inb : ∀ (v801 : BitVec 32) (k0_hw100 : k0_chk100 v801), ∀ a, (k0_off200 v801) a + S1x64x64.size a ≤ S1x4096x64.size a := fun v801 k0_hw100 => k0_hw100

def k0_off201 (i : grid0.Coords) : Fin 3 → Nat :=
  let arg0 : BitVec 32 := BitVec.ofNat 32 (i 0).val
  let v806 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v807 : Index := Scalar.indexCast v775
  let c4_447 : Index := 4#32
  ![v806.toNat, v807.toNat, 4]
def k0_off202 (v808 : BitVec 32) : Fin 3 → Nat :=
  let c0_449 : Index := 0#32
  let c64_i32_448 : BitVec 32 := 64#32
  let v809 : BitVec 32 := Scalar.muli v808 c64_i32_448
  let v810 : Index := Scalar.indexCast v809
  let c0_450 : Index := 0#32
  ![0, v810.toNat, 0]

def k0_chk101 (v808 : BitVec 32) : Prop :=
  (∀ a, (k0_off202 v808) a + S1x64x64.size a ≤ S1x4096x64.size a)
theorem k0_off202_inb : ∀ (v808 : BitVec 32) (k0_hw101 : k0_chk101 v808), ∀ a, (k0_off202 v808) a + S1x64x64.size a ≤ S1x4096x64.size a := fun v808 k0_hw101 => k0_hw101

def k0_off203 (i : grid0.Coords) : Fin 3 → Nat :=
  let arg0 : BitVec 32 := BitVec.ofNat 32 (i 0).val
  let v813 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v814 : Index := Scalar.indexCast v775
  let c5_451 : Index := 5#32
  ![v813.toNat, v814.toNat, 5]
def k0_off204 (v815 : BitVec 32) : Fin 3 → Nat :=
  let c0_453 : Index := 0#32
  let c64_i32_452 : BitVec 32 := 64#32
  let v816 : BitVec 32 := Scalar.muli v815 c64_i32_452
  let v817 : Index := Scalar.indexCast v816
  let c0_454 : Index := 0#32
  ![0, v817.toNat, 0]

def k0_chk102 (v815 : BitVec 32) : Prop :=
  (∀ a, (k0_off204 v815) a + S1x64x64.size a ≤ S1x4096x64.size a)
theorem k0_off204_inb : ∀ (v815 : BitVec 32) (k0_hw102 : k0_chk102 v815), ∀ a, (k0_off204 v815) a + S1x64x64.size a ≤ S1x4096x64.size a := fun v815 k0_hw102 => k0_hw102

def k0_off205 (i : grid0.Coords) : Fin 3 → Nat :=
  let arg0 : BitVec 32 := BitVec.ofNat 32 (i 0).val
  let v820 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v821 : Index := Scalar.indexCast v775
  let c6_455 : Index := 6#32
  ![v820.toNat, v821.toNat, 6]
def k0_off206 (v822 : BitVec 32) : Fin 3 → Nat :=
  let c0_457 : Index := 0#32
  let c64_i32_456 : BitVec 32 := 64#32
  let v823 : BitVec 32 := Scalar.muli v822 c64_i32_456
  let v824 : Index := Scalar.indexCast v823
  let c0_458 : Index := 0#32
  ![0, v824.toNat, 0]

def k0_chk103 (v822 : BitVec 32) : Prop :=
  (∀ a, (k0_off206 v822) a + S1x64x64.size a ≤ S1x4096x64.size a)
theorem k0_off206_inb : ∀ (v822 : BitVec 32) (k0_hw103 : k0_chk103 v822), ∀ a, (k0_off206 v822) a + S1x64x64.size a ≤ S1x4096x64.size a := fun v822 k0_hw103 => k0_hw103

def k0_off207 (i : grid0.Coords) : Fin 3 → Nat :=
  let arg0 : BitVec 32 := BitVec.ofNat 32 (i 0).val
  let v827 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v828 : Index := Scalar.indexCast v775
  let c7_459 : Index := 7#32
  ![v827.toNat, v828.toNat, 7]
def k0_off208 (v829 : BitVec 32) : Fin 3 → Nat :=
  let c0_461 : Index := 0#32
  let c64_i32_460 : BitVec 32 := 64#32
  let v830 : BitVec 32 := Scalar.muli v829 c64_i32_460
  let v831 : Index := Scalar.indexCast v830
  let c0_462 : Index := 0#32
  ![0, v831.toNat, 0]

def k0_chk104 (v829 : BitVec 32) : Prop :=
  (∀ a, (k0_off208 v829) a + S1x64x64.size a ≤ S1x4096x64.size a)
theorem k0_off208_inb : ∀ (v829 : BitVec 32) (k0_hw104 : k0_chk104 v829), ∀ a, (k0_off208 v829) a + S1x64x64.size a ≤ S1x4096x64.size a := fun v829 k0_hw104 => k0_hw104

def k0_off209 (i : grid0.Coords) : Fin 3 → Nat :=
  let arg0 : BitVec 32 := BitVec.ofNat 32 (i 0).val
  let v839 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v840 : Index := Scalar.indexCast v775
  let c0_465 : Index := 0#32
  ![v839.toNat, v840.toNat, 0]
def k0_off210 (v841 : BitVec 32) : Fin 3 → Nat :=
  let c0_467 : Index := 0#32
  let c64_i32_466 : BitVec 32 := 64#32
  let v842 : BitVec 32 := Scalar.muli v841 c64_i32_466
  let v843 : Index := Scalar.indexCast v842
  let c0_468 : Index := 0#32
  ![0, v843.toNat, 0]

def k0_chk105 (v841 : BitVec 32) : Prop :=
  (∀ a, (k0_off210 v841) a + S1x64x64.size a ≤ S1x4096x64.size a)
theorem k0_off210_inb : ∀ (v841 : BitVec 32) (k0_hw105 : k0_chk105 v841), ∀ a, (k0_off210 v841) a + S1x64x64.size a ≤ S1x4096x64.size a := fun v841 k0_hw105 => k0_hw105

def k0_off211 (i : grid0.Coords) : Fin 3 → Nat :=
  let arg0 : BitVec 32 := BitVec.ofNat 32 (i 0).val
  let v846 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v847 : Index := Scalar.indexCast v775
  let c1_469 : Index := 1#32
  ![v846.toNat, v847.toNat, 1]
def k0_off212 (v848 : BitVec 32) : Fin 3 → Nat :=
  let c0_471 : Index := 0#32
  let c64_i32_470 : BitVec 32 := 64#32
  let v849 : BitVec 32 := Scalar.muli v848 c64_i32_470
  let v850 : Index := Scalar.indexCast v849
  let c0_472 : Index := 0#32
  ![0, v850.toNat, 0]

def k0_chk106 (v848 : BitVec 32) : Prop :=
  (∀ a, (k0_off212 v848) a + S1x64x64.size a ≤ S1x4096x64.size a)
theorem k0_off212_inb : ∀ (v848 : BitVec 32) (k0_hw106 : k0_chk106 v848), ∀ a, (k0_off212 v848) a + S1x64x64.size a ≤ S1x4096x64.size a := fun v848 k0_hw106 => k0_hw106

def k0_off213 (i : grid0.Coords) : Fin 3 → Nat :=
  let arg0 : BitVec 32 := BitVec.ofNat 32 (i 0).val
  let v853 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v854 : Index := Scalar.indexCast v775
  let c2_473 : Index := 2#32
  ![v853.toNat, v854.toNat, 2]
def k0_off214 (v855 : BitVec 32) : Fin 3 → Nat :=
  let c0_475 : Index := 0#32
  let c64_i32_474 : BitVec 32 := 64#32
  let v856 : BitVec 32 := Scalar.muli v855 c64_i32_474
  let v857 : Index := Scalar.indexCast v856
  let c0_476 : Index := 0#32
  ![0, v857.toNat, 0]

def k0_chk107 (v855 : BitVec 32) : Prop :=
  (∀ a, (k0_off214 v855) a + S1x64x64.size a ≤ S1x4096x64.size a)
theorem k0_off214_inb : ∀ (v855 : BitVec 32) (k0_hw107 : k0_chk107 v855), ∀ a, (k0_off214 v855) a + S1x64x64.size a ≤ S1x4096x64.size a := fun v855 k0_hw107 => k0_hw107

def k0_off215 (i : grid0.Coords) : Fin 3 → Nat :=
  let arg0 : BitVec 32 := BitVec.ofNat 32 (i 0).val
  let v860 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v861 : Index := Scalar.indexCast v775
  let c3_477 : Index := 3#32
  ![v860.toNat, v861.toNat, 3]
def k0_off216 (v862 : BitVec 32) : Fin 3 → Nat :=
  let c0_479 : Index := 0#32
  let c64_i32_478 : BitVec 32 := 64#32
  let v863 : BitVec 32 := Scalar.muli v862 c64_i32_478
  let v864 : Index := Scalar.indexCast v863
  let c0_480 : Index := 0#32
  ![0, v864.toNat, 0]

def k0_chk108 (v862 : BitVec 32) : Prop :=
  (∀ a, (k0_off216 v862) a + S1x64x64.size a ≤ S1x4096x64.size a)
theorem k0_off216_inb : ∀ (v862 : BitVec 32) (k0_hw108 : k0_chk108 v862), ∀ a, (k0_off216 v862) a + S1x64x64.size a ≤ S1x4096x64.size a := fun v862 k0_hw108 => k0_hw108

def k0_off217 (i : grid0.Coords) : Fin 3 → Nat :=
  let arg0 : BitVec 32 := BitVec.ofNat 32 (i 0).val
  let v867 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v868 : Index := Scalar.indexCast v775
  let c4_481 : Index := 4#32
  ![v867.toNat, v868.toNat, 4]
def k0_off218 (v869 : BitVec 32) : Fin 3 → Nat :=
  let c0_483 : Index := 0#32
  let c64_i32_482 : BitVec 32 := 64#32
  let v870 : BitVec 32 := Scalar.muli v869 c64_i32_482
  let v871 : Index := Scalar.indexCast v870
  let c0_484 : Index := 0#32
  ![0, v871.toNat, 0]

def k0_chk109 (v869 : BitVec 32) : Prop :=
  (∀ a, (k0_off218 v869) a + S1x64x64.size a ≤ S1x4096x64.size a)
theorem k0_off218_inb : ∀ (v869 : BitVec 32) (k0_hw109 : k0_chk109 v869), ∀ a, (k0_off218 v869) a + S1x64x64.size a ≤ S1x4096x64.size a := fun v869 k0_hw109 => k0_hw109

def k0_off219 (i : grid0.Coords) : Fin 3 → Nat :=
  let arg0 : BitVec 32 := BitVec.ofNat 32 (i 0).val
  let v874 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v875 : Index := Scalar.indexCast v775
  let c5_485 : Index := 5#32
  ![v874.toNat, v875.toNat, 5]
def k0_off220 (v876 : BitVec 32) : Fin 3 → Nat :=
  let c0_487 : Index := 0#32
  let c64_i32_486 : BitVec 32 := 64#32
  let v877 : BitVec 32 := Scalar.muli v876 c64_i32_486
  let v878 : Index := Scalar.indexCast v877
  let c0_488 : Index := 0#32
  ![0, v878.toNat, 0]

def k0_chk110 (v876 : BitVec 32) : Prop :=
  (∀ a, (k0_off220 v876) a + S1x64x64.size a ≤ S1x4096x64.size a)
theorem k0_off220_inb : ∀ (v876 : BitVec 32) (k0_hw110 : k0_chk110 v876), ∀ a, (k0_off220 v876) a + S1x64x64.size a ≤ S1x4096x64.size a := fun v876 k0_hw110 => k0_hw110

def k0_off221 (i : grid0.Coords) : Fin 3 → Nat :=
  let arg0 : BitVec 32 := BitVec.ofNat 32 (i 0).val
  let v881 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v882 : Index := Scalar.indexCast v775
  let c6_489 : Index := 6#32
  ![v881.toNat, v882.toNat, 6]
def k0_off222 (v883 : BitVec 32) : Fin 3 → Nat :=
  let c0_491 : Index := 0#32
  let c64_i32_490 : BitVec 32 := 64#32
  let v884 : BitVec 32 := Scalar.muli v883 c64_i32_490
  let v885 : Index := Scalar.indexCast v884
  let c0_492 : Index := 0#32
  ![0, v885.toNat, 0]

def k0_chk111 (v883 : BitVec 32) : Prop :=
  (∀ a, (k0_off222 v883) a + S1x64x64.size a ≤ S1x4096x64.size a)
theorem k0_off222_inb : ∀ (v883 : BitVec 32) (k0_hw111 : k0_chk111 v883), ∀ a, (k0_off222 v883) a + S1x64x64.size a ≤ S1x4096x64.size a := fun v883 k0_hw111 => k0_hw111

def k0_off223 (i : grid0.Coords) : Fin 3 → Nat :=
  let arg0 : BitVec 32 := BitVec.ofNat 32 (i 0).val
  let v888 : Index := Scalar.indexCast arg0
  let arg1 : BitVec 32 := BitVec.ofNat 32 (i 1).val
  let c8_i32_428 : BitVec 32 := 8#32
  let v774 : BitVec 32 := Scalar.muli arg1 c8_i32_428
  let c6_i32 : BitVec 32 := 6#32
  let v775 : BitVec 32 := Scalar.addi v774 c6_i32
  let v889 : Index := Scalar.indexCast v775
  let c7_493 : Index := 7#32
  ![v888.toNat, v889.toNat, 7]
def k0_off224 (v890 : BitVec 32) : Fin 3 → Nat :=
  let c0_495 : Index := 0#32
  let c64_i32_494 : BitVec 32 := 64#32
  let v891 : BitVec 32 := Scalar.muli v890 c64_i32_494
  let v892 : Index := Scalar.indexCast v891
  let c0_496 : Index := 0#32
  ![0, v892.toNat, 0]

def k0_chk112 (v890 : BitVec 32) : Prop :=
  (∀ a, (k0_off224 v890) a + S1x64x64.size a ≤ S1x4096x64.size a)
theorem k0_off224_inb : ∀ (v890 : BitVec 32) (k0_hw112 : k0_chk112 v890), ∀ a, (k0_off224 v890) a + S1x64x64.size a ≤ S1x4096x64.size a := fun v890 k0_hw112 => k0_hw112

def k0_off225 (i : grid0.Coords) : Fin 3 → Nat :=
  let arg0 : BitVec 32 := BitVec.ofNat 32 (i 0).val
  let v907 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v908 : Index := Scalar.indexCast v904
  let c0_504 : Index := 0#32
  ![v907.toNat, v908.toNat, 0]
def k0_off226 (v909 : BitVec 32) : Fin 3 → Nat :=
  let c0_506 : Index := 0#32
  let c64_i32_505 : BitVec 32 := 64#32
  let v910 : BitVec 32 := Scalar.muli v909 c64_i32_505
  let v911 : Index := Scalar.indexCast v910
  let c0_507 : Index := 0#32
  ![0, v911.toNat, 0]

def k0_chk113 (v909 : BitVec 32) : Prop :=
  (∀ a, (k0_off226 v909) a + S1x64x64.size a ≤ S1x4096x64.size a)
theorem k0_off226_inb : ∀ (v909 : BitVec 32) (k0_hw113 : k0_chk113 v909), ∀ a, (k0_off226 v909) a + S1x64x64.size a ≤ S1x4096x64.size a := fun v909 k0_hw113 => k0_hw113

def k0_off227 (i : grid0.Coords) : Fin 3 → Nat :=
  let arg0 : BitVec 32 := BitVec.ofNat 32 (i 0).val
  let v914 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v915 : Index := Scalar.indexCast v904
  let c1_508 : Index := 1#32
  ![v914.toNat, v915.toNat, 1]
def k0_off228 (v916 : BitVec 32) : Fin 3 → Nat :=
  let c0_510 : Index := 0#32
  let c64_i32_509 : BitVec 32 := 64#32
  let v917 : BitVec 32 := Scalar.muli v916 c64_i32_509
  let v918 : Index := Scalar.indexCast v917
  let c0_511 : Index := 0#32
  ![0, v918.toNat, 0]

def k0_chk114 (v916 : BitVec 32) : Prop :=
  (∀ a, (k0_off228 v916) a + S1x64x64.size a ≤ S1x4096x64.size a)
theorem k0_off228_inb : ∀ (v916 : BitVec 32) (k0_hw114 : k0_chk114 v916), ∀ a, (k0_off228 v916) a + S1x64x64.size a ≤ S1x4096x64.size a := fun v916 k0_hw114 => k0_hw114

def k0_off229 (i : grid0.Coords) : Fin 3 → Nat :=
  let arg0 : BitVec 32 := BitVec.ofNat 32 (i 0).val
  let v921 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v922 : Index := Scalar.indexCast v904
  let c2_512 : Index := 2#32
  ![v921.toNat, v922.toNat, 2]
def k0_off230 (v923 : BitVec 32) : Fin 3 → Nat :=
  let c0_514 : Index := 0#32
  let c64_i32_513 : BitVec 32 := 64#32
  let v924 : BitVec 32 := Scalar.muli v923 c64_i32_513
  let v925 : Index := Scalar.indexCast v924
  let c0_515 : Index := 0#32
  ![0, v925.toNat, 0]

def k0_chk115 (v923 : BitVec 32) : Prop :=
  (∀ a, (k0_off230 v923) a + S1x64x64.size a ≤ S1x4096x64.size a)
theorem k0_off230_inb : ∀ (v923 : BitVec 32) (k0_hw115 : k0_chk115 v923), ∀ a, (k0_off230 v923) a + S1x64x64.size a ≤ S1x4096x64.size a := fun v923 k0_hw115 => k0_hw115

def k0_off231 (i : grid0.Coords) : Fin 3 → Nat :=
  let arg0 : BitVec 32 := BitVec.ofNat 32 (i 0).val
  let v928 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v929 : Index := Scalar.indexCast v904
  let c3_516 : Index := 3#32
  ![v928.toNat, v929.toNat, 3]
def k0_off232 (v930 : BitVec 32) : Fin 3 → Nat :=
  let c0_518 : Index := 0#32
  let c64_i32_517 : BitVec 32 := 64#32
  let v931 : BitVec 32 := Scalar.muli v930 c64_i32_517
  let v932 : Index := Scalar.indexCast v931
  let c0_519 : Index := 0#32
  ![0, v932.toNat, 0]

def k0_chk116 (v930 : BitVec 32) : Prop :=
  (∀ a, (k0_off232 v930) a + S1x64x64.size a ≤ S1x4096x64.size a)
theorem k0_off232_inb : ∀ (v930 : BitVec 32) (k0_hw116 : k0_chk116 v930), ∀ a, (k0_off232 v930) a + S1x64x64.size a ≤ S1x4096x64.size a := fun v930 k0_hw116 => k0_hw116

def k0_off233 (i : grid0.Coords) : Fin 3 → Nat :=
  let arg0 : BitVec 32 := BitVec.ofNat 32 (i 0).val
  let v935 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v936 : Index := Scalar.indexCast v904
  let c4_520 : Index := 4#32
  ![v935.toNat, v936.toNat, 4]
def k0_off234 (v937 : BitVec 32) : Fin 3 → Nat :=
  let c0_522 : Index := 0#32
  let c64_i32_521 : BitVec 32 := 64#32
  let v938 : BitVec 32 := Scalar.muli v937 c64_i32_521
  let v939 : Index := Scalar.indexCast v938
  let c0_523 : Index := 0#32
  ![0, v939.toNat, 0]

def k0_chk117 (v937 : BitVec 32) : Prop :=
  (∀ a, (k0_off234 v937) a + S1x64x64.size a ≤ S1x4096x64.size a)
theorem k0_off234_inb : ∀ (v937 : BitVec 32) (k0_hw117 : k0_chk117 v937), ∀ a, (k0_off234 v937) a + S1x64x64.size a ≤ S1x4096x64.size a := fun v937 k0_hw117 => k0_hw117

def k0_off235 (i : grid0.Coords) : Fin 3 → Nat :=
  let arg0 : BitVec 32 := BitVec.ofNat 32 (i 0).val
  let v942 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v943 : Index := Scalar.indexCast v904
  let c5_524 : Index := 5#32
  ![v942.toNat, v943.toNat, 5]
def k0_off236 (v944 : BitVec 32) : Fin 3 → Nat :=
  let c0_526 : Index := 0#32
  let c64_i32_525 : BitVec 32 := 64#32
  let v945 : BitVec 32 := Scalar.muli v944 c64_i32_525
  let v946 : Index := Scalar.indexCast v945
  let c0_527 : Index := 0#32
  ![0, v946.toNat, 0]

def k0_chk118 (v944 : BitVec 32) : Prop :=
  (∀ a, (k0_off236 v944) a + S1x64x64.size a ≤ S1x4096x64.size a)
theorem k0_off236_inb : ∀ (v944 : BitVec 32) (k0_hw118 : k0_chk118 v944), ∀ a, (k0_off236 v944) a + S1x64x64.size a ≤ S1x4096x64.size a := fun v944 k0_hw118 => k0_hw118

def k0_off237 (i : grid0.Coords) : Fin 3 → Nat :=
  let arg0 : BitVec 32 := BitVec.ofNat 32 (i 0).val
  let v949 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v950 : Index := Scalar.indexCast v904
  let c6_528 : Index := 6#32
  ![v949.toNat, v950.toNat, 6]
def k0_off238 (v951 : BitVec 32) : Fin 3 → Nat :=
  let c0_530 : Index := 0#32
  let c64_i32_529 : BitVec 32 := 64#32
  let v952 : BitVec 32 := Scalar.muli v951 c64_i32_529
  let v953 : Index := Scalar.indexCast v952
  let c0_531 : Index := 0#32
  ![0, v953.toNat, 0]

def k0_chk119 (v951 : BitVec 32) : Prop :=
  (∀ a, (k0_off238 v951) a + S1x64x64.size a ≤ S1x4096x64.size a)
theorem k0_off238_inb : ∀ (v951 : BitVec 32) (k0_hw119 : k0_chk119 v951), ∀ a, (k0_off238 v951) a + S1x64x64.size a ≤ S1x4096x64.size a := fun v951 k0_hw119 => k0_hw119

def k0_off239 (i : grid0.Coords) : Fin 3 → Nat :=
  let arg0 : BitVec 32 := BitVec.ofNat 32 (i 0).val
  let v956 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v957 : Index := Scalar.indexCast v904
  let c7_532 : Index := 7#32
  ![v956.toNat, v957.toNat, 7]
def k0_off240 (v958 : BitVec 32) : Fin 3 → Nat :=
  let c0_534 : Index := 0#32
  let c64_i32_533 : BitVec 32 := 64#32
  let v959 : BitVec 32 := Scalar.muli v958 c64_i32_533
  let v960 : Index := Scalar.indexCast v959
  let c0_535 : Index := 0#32
  ![0, v960.toNat, 0]

def k0_chk120 (v958 : BitVec 32) : Prop :=
  (∀ a, (k0_off240 v958) a + S1x64x64.size a ≤ S1x4096x64.size a)
theorem k0_off240_inb : ∀ (v958 : BitVec 32) (k0_hw120 : k0_chk120 v958), ∀ a, (k0_off240 v958) a + S1x64x64.size a ≤ S1x4096x64.size a := fun v958 k0_hw120 => k0_hw120

def k0_off241 (i : grid0.Coords) : Fin 3 → Nat :=
  let arg0 : BitVec 32 := BitVec.ofNat 32 (i 0).val
  let v968 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v969 : Index := Scalar.indexCast v904
  let c0_538 : Index := 0#32
  ![v968.toNat, v969.toNat, 0]
def k0_off242 (v970 : BitVec 32) : Fin 3 → Nat :=
  let c0_540 : Index := 0#32
  let c64_i32_539 : BitVec 32 := 64#32
  let v971 : BitVec 32 := Scalar.muli v970 c64_i32_539
  let v972 : Index := Scalar.indexCast v971
  let c0_541 : Index := 0#32
  ![0, v972.toNat, 0]

def k0_chk121 (v970 : BitVec 32) : Prop :=
  (∀ a, (k0_off242 v970) a + S1x64x64.size a ≤ S1x4096x64.size a)
theorem k0_off242_inb : ∀ (v970 : BitVec 32) (k0_hw121 : k0_chk121 v970), ∀ a, (k0_off242 v970) a + S1x64x64.size a ≤ S1x4096x64.size a := fun v970 k0_hw121 => k0_hw121

def k0_off243 (i : grid0.Coords) : Fin 3 → Nat :=
  let arg0 : BitVec 32 := BitVec.ofNat 32 (i 0).val
  let v975 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v976 : Index := Scalar.indexCast v904
  let c1_542 : Index := 1#32
  ![v975.toNat, v976.toNat, 1]
def k0_off244 (v977 : BitVec 32) : Fin 3 → Nat :=
  let c0_544 : Index := 0#32
  let c64_i32_543 : BitVec 32 := 64#32
  let v978 : BitVec 32 := Scalar.muli v977 c64_i32_543
  let v979 : Index := Scalar.indexCast v978
  let c0_545 : Index := 0#32
  ![0, v979.toNat, 0]

def k0_chk122 (v977 : BitVec 32) : Prop :=
  (∀ a, (k0_off244 v977) a + S1x64x64.size a ≤ S1x4096x64.size a)
theorem k0_off244_inb : ∀ (v977 : BitVec 32) (k0_hw122 : k0_chk122 v977), ∀ a, (k0_off244 v977) a + S1x64x64.size a ≤ S1x4096x64.size a := fun v977 k0_hw122 => k0_hw122

def k0_off245 (i : grid0.Coords) : Fin 3 → Nat :=
  let arg0 : BitVec 32 := BitVec.ofNat 32 (i 0).val
  let v982 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v983 : Index := Scalar.indexCast v904
  let c2_546 : Index := 2#32
  ![v982.toNat, v983.toNat, 2]
def k0_off246 (v984 : BitVec 32) : Fin 3 → Nat :=
  let c0_548 : Index := 0#32
  let c64_i32_547 : BitVec 32 := 64#32
  let v985 : BitVec 32 := Scalar.muli v984 c64_i32_547
  let v986 : Index := Scalar.indexCast v985
  let c0_549 : Index := 0#32
  ![0, v986.toNat, 0]

def k0_chk123 (v984 : BitVec 32) : Prop :=
  (∀ a, (k0_off246 v984) a + S1x64x64.size a ≤ S1x4096x64.size a)
theorem k0_off246_inb : ∀ (v984 : BitVec 32) (k0_hw123 : k0_chk123 v984), ∀ a, (k0_off246 v984) a + S1x64x64.size a ≤ S1x4096x64.size a := fun v984 k0_hw123 => k0_hw123

def k0_off247 (i : grid0.Coords) : Fin 3 → Nat :=
  let arg0 : BitVec 32 := BitVec.ofNat 32 (i 0).val
  let v989 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v990 : Index := Scalar.indexCast v904
  let c3_550 : Index := 3#32
  ![v989.toNat, v990.toNat, 3]
def k0_off248 (v991 : BitVec 32) : Fin 3 → Nat :=
  let c0_552 : Index := 0#32
  let c64_i32_551 : BitVec 32 := 64#32
  let v992 : BitVec 32 := Scalar.muli v991 c64_i32_551
  let v993 : Index := Scalar.indexCast v992
  let c0_553 : Index := 0#32
  ![0, v993.toNat, 0]

def k0_chk124 (v991 : BitVec 32) : Prop :=
  (∀ a, (k0_off248 v991) a + S1x64x64.size a ≤ S1x4096x64.size a)
theorem k0_off248_inb : ∀ (v991 : BitVec 32) (k0_hw124 : k0_chk124 v991), ∀ a, (k0_off248 v991) a + S1x64x64.size a ≤ S1x4096x64.size a := fun v991 k0_hw124 => k0_hw124

def k0_off249 (i : grid0.Coords) : Fin 3 → Nat :=
  let arg0 : BitVec 32 := BitVec.ofNat 32 (i 0).val
  let v996 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v997 : Index := Scalar.indexCast v904
  let c4_554 : Index := 4#32
  ![v996.toNat, v997.toNat, 4]
def k0_off250 (v998 : BitVec 32) : Fin 3 → Nat :=
  let c0_556 : Index := 0#32
  let c64_i32_555 : BitVec 32 := 64#32
  let v999 : BitVec 32 := Scalar.muli v998 c64_i32_555
  let v1000 : Index := Scalar.indexCast v999
  let c0_557 : Index := 0#32
  ![0, v1000.toNat, 0]

def k0_chk125 (v998 : BitVec 32) : Prop :=
  (∀ a, (k0_off250 v998) a + S1x64x64.size a ≤ S1x4096x64.size a)
theorem k0_off250_inb : ∀ (v998 : BitVec 32) (k0_hw125 : k0_chk125 v998), ∀ a, (k0_off250 v998) a + S1x64x64.size a ≤ S1x4096x64.size a := fun v998 k0_hw125 => k0_hw125

def k0_off251 (i : grid0.Coords) : Fin 3 → Nat :=
  let arg0 : BitVec 32 := BitVec.ofNat 32 (i 0).val
  let v1003 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v1004 : Index := Scalar.indexCast v904
  let c5_558 : Index := 5#32
  ![v1003.toNat, v1004.toNat, 5]
def k0_off252 (v1005 : BitVec 32) : Fin 3 → Nat :=
  let c0_560 : Index := 0#32
  let c64_i32_559 : BitVec 32 := 64#32
  let v1006 : BitVec 32 := Scalar.muli v1005 c64_i32_559
  let v1007 : Index := Scalar.indexCast v1006
  let c0_561 : Index := 0#32
  ![0, v1007.toNat, 0]

def k0_chk126 (v1005 : BitVec 32) : Prop :=
  (∀ a, (k0_off252 v1005) a + S1x64x64.size a ≤ S1x4096x64.size a)
theorem k0_off252_inb : ∀ (v1005 : BitVec 32) (k0_hw126 : k0_chk126 v1005), ∀ a, (k0_off252 v1005) a + S1x64x64.size a ≤ S1x4096x64.size a := fun v1005 k0_hw126 => k0_hw126

def k0_off253 (i : grid0.Coords) : Fin 3 → Nat :=
  let arg0 : BitVec 32 := BitVec.ofNat 32 (i 0).val
  let v1010 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v1011 : Index := Scalar.indexCast v904
  let c6_562 : Index := 6#32
  ![v1010.toNat, v1011.toNat, 6]
def k0_off254 (v1012 : BitVec 32) : Fin 3 → Nat :=
  let c0_564 : Index := 0#32
  let c64_i32_563 : BitVec 32 := 64#32
  let v1013 : BitVec 32 := Scalar.muli v1012 c64_i32_563
  let v1014 : Index := Scalar.indexCast v1013
  let c0_565 : Index := 0#32
  ![0, v1014.toNat, 0]

def k0_chk127 (v1012 : BitVec 32) : Prop :=
  (∀ a, (k0_off254 v1012) a + S1x64x64.size a ≤ S1x4096x64.size a)
theorem k0_off254_inb : ∀ (v1012 : BitVec 32) (k0_hw127 : k0_chk127 v1012), ∀ a, (k0_off254 v1012) a + S1x64x64.size a ≤ S1x4096x64.size a := fun v1012 k0_hw127 => k0_hw127

def k0_off255 (i : grid0.Coords) : Fin 3 → Nat :=
  let arg0 : BitVec 32 := BitVec.ofNat 32 (i 0).val
  let v1017 : Index := Scalar.indexCast arg0
  let arg1 : BitVec 32 := BitVec.ofNat 32 (i 1).val
  let c8_i32_501 : BitVec 32 := 8#32
  let v903 : BitVec 32 := Scalar.muli arg1 c8_i32_501
  let c7_i32 : BitVec 32 := 7#32
  let v904 : BitVec 32 := Scalar.addi v903 c7_i32
  let v1018 : Index := Scalar.indexCast v904
  let c7_566 : Index := 7#32
  ![v1017.toNat, v1018.toNat, 7]
def k0_off256 (v1019 : BitVec 32) : Fin 3 → Nat :=
  let c0_568 : Index := 0#32
  let c64_i32_567 : BitVec 32 := 64#32
  let v1020 : BitVec 32 := Scalar.muli v1019 c64_i32_567
  let v1021 : Index := Scalar.indexCast v1020
  let c0_569 : Index := 0#32
  ![0, v1021.toNat, 0]

def k0_chk128 (v1019 : BitVec 32) : Prop :=
  (∀ a, (k0_off256 v1019) a + S1x64x64.size a ≤ S1x4096x64.size a)
theorem k0_off256_inb : ∀ (v1019 : BitVec 32) (k0_hw128 : k0_chk128 v1019), ∀ a, (k0_off256 v1019) a + S1x64x64.size a ≤ S1x4096x64.size a := fun v1019 k0_hw128 => k0_hw128

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x12x4096x64 : Shape := ⟨4, ![1, 12, 4096, 64]⟩
abbrev S12x64x3 : Shape := ⟨3, ![12, 64, 3]⟩
abbrev S2 : Shape := ⟨1, ![2]⟩
abbrev S1x12x64x64x64 : Shape := ⟨5, ![1, 12, 64, 64, 64]⟩
abbrev S64 : Shape := ⟨1, ![64]⟩
abbrev S_ : Shape := ⟨0, ![]⟩
abbrev S64x1 : Shape := ⟨2, ![64, 1]⟩
abbrev S64x3 : Shape := ⟨2, ![64, 3]⟩
abbrev S64x2 : Shape := ⟨2, ![64, 2]⟩
abbrev S64x5 : Shape := ⟨2, ![64, 5]⟩
abbrev S1x64x5 : Shape := ⟨3, ![1, 64, 5]⟩
abbrev S12x64x5 : Shape := ⟨3, ![12, 64, 5]⟩
abbrev S12x64x8 : Shape := ⟨3, ![12, 64, 8]⟩
abbrev S12 : Shape := ⟨1, ![12]⟩
abbrev S12x1x1 : Shape := ⟨3, ![12, 1, 1]⟩
abbrev S12x64x8x1 : Shape := ⟨4, ![12, 64, 8, 1]⟩
abbrev S12x64x8x2 : Shape := ⟨4, ![12, 64, 8, 2]⟩
abbrev S1x12x64x8x64x64 : Shape := ⟨6, ![1, 12, 64, 8, 64, 64]⟩
abbrev S1x12x64x512x64 : Shape := ⟨5, ![1, 12, 64, 512, 64]⟩
abbrev S1x12x64x64x512 : Shape := ⟨5, ![1, 12, 64, 64, 512]⟩
abbrev S1x12x64x64 : Shape := ⟨4, ![1, 12, 64, 64]⟩
abbrev S1x12x64x64x1 : Shape := ⟨5, ![1, 12, 64, 64, 1]⟩
abbrev S12x4096x64 : Shape := ⟨3, ![12, 4096, 64]⟩

abbrev nBuf : Space → Nat
  | .hbm => 130
  | .vmem => 0
  | .smem => 0
  | _ => 0

abbrev hbmTy0_0 (i : Nat) : BufTy := match i % 128 with
  | 0 => ⟨S1x12x4096x64, .f32⟩
  | 1 => ⟨S1x12x4096x64, .f32⟩
  | 2 => ⟨S1x12x4096x64, .f32⟩
  | 3 => ⟨S12x64x3, .i32⟩
  | 4 => ⟨S2, .i32⟩
  | 5 => ⟨S1x12x64x64x64, .f32⟩
  | 6 => ⟨S1x12x64x64x64, .f32⟩
  | 7 => ⟨S1x12x64x64x64, .f32⟩
  | 8 => ⟨S64, .i32⟩
  | 9 => ⟨S_, .i32⟩
  | 10 => ⟨S64, .i32⟩
  | 11 => ⟨S64, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i1⟩
  | 23 => ⟨S_, .i32⟩
  | 24 => ⟨S64, .i32⟩
  | 25 => ⟨S64, .i1⟩
  | 26 => ⟨S_, .i32⟩
  | 27 => ⟨S_, .i1⟩
  | 28 => ⟨S64, .i1⟩
  | 29 => ⟨S64, .i1⟩
  | 30 => ⟨S64, .i1⟩
  | 31 => ⟨S64, .i32⟩
  | 32 => ⟨S64, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i1⟩
  | 48 => ⟨S_, .i32⟩
  | 49 => ⟨S64, .i32⟩
  | 50 => ⟨S64, .i1⟩
  | 51 => ⟨S_, .i32⟩
  | 52 => ⟨S_, .i1⟩
  | 53 => ⟨S64, .i1⟩
  | 54 => ⟨S64, .i1⟩
  | 55 => ⟨S64, .i1⟩
  | 56 => ⟨S64, .i32⟩
  | 57 => ⟨S64, .i32⟩
  | 58 => ⟨S64, .i32⟩
  | 59 => ⟨S64x1, .i32⟩
  | 60 => ⟨S64x1, .i32⟩
  | 61 => ⟨S64x1, .i32⟩
  | 62 => ⟨S64x3, .i32⟩
  | 63 => ⟨S64x2, .i32⟩
  | 64 => ⟨S64x5, .i32⟩
  | 65 => ⟨S1x64x5, .i32⟩
  | 66 => ⟨S12x64x5, .i32⟩
  | 67 => ⟨S12x64x8, .i32⟩
  | 68 => ⟨S12, .i32⟩
  | 69 => ⟨S12x1x1, .i32⟩
  | 70 => ⟨S_, .i32⟩
  | 71 => ⟨S12x1x1, .i32⟩
  | 72 => ⟨S12x1x1, .i1⟩
  | 73 => ⟨S_, .i32⟩
  | 74 => ⟨S12x1x1, .i32⟩
  | 75 => ⟨S12x1x1, .i32⟩
  | 76 => ⟨S12x1x1, .i32⟩
  | 77 => ⟨S_, .i32⟩
  | 78 => ⟨S12x64x8, .i32⟩
  | 79 => ⟨S12x64x8, .i1⟩
  | 80 => ⟨S_, .i32⟩
  | 81 => ⟨S12x64x8, .i32⟩
  | 82 => ⟨S12x64x8, .i32⟩
  | 83 => ⟨S12x64x8, .i32⟩
  | 84 => ⟨S12x64x8, .i32⟩
  | 85 => ⟨S12x64x8x1, .i32⟩
  | 86 => ⟨S12x64x8x1, .i32⟩
  | 87 => ⟨S12x64x8x2, .i32⟩
  | 88 => ⟨S1x12x64x8x64x64, .f32⟩
  | 89 => ⟨S_, .i32⟩
  | 90 => ⟨S12x1x1, .i32⟩
  | 91 => ⟨S12x1x1, .i1⟩
  | 92 => ⟨S_, .i32⟩
  | 93 => ⟨S12x1x1, .i32⟩
  | 94 => ⟨S12x1x1, .i32⟩
  | 95 => ⟨S12x1x1, .i32⟩
  | 96 => ⟨S_, .i32⟩
  | 97 => ⟨S12x64x8, .i32⟩
  | 98 => ⟨S12x64x8, .i1⟩
  | 99 => ⟨S_, .i32⟩
  | 100 => ⟨S12x64x8, .i32⟩
  | 101 => ⟨S12x64x8, .i32⟩
  | 102 => ⟨S12x64x8, .i32⟩
  | 103 => ⟨S12x64x8, .i32⟩
  | 104 => ⟨S12x64x8x1, .i32⟩
  | 105 => ⟨S12x64x8x1, .i32⟩
  | 106 => ⟨S12x64x8x2, .i32⟩
  | 107 => ⟨S1x12x64x8x64x64, .f32⟩
  | 108 => ⟨S1x12x64x512x64, .f32⟩
  | 109 => ⟨S1x12x64x512x64, .f32⟩
  | 110 => ⟨S1x12x64x64x512, .f32⟩
  | 111 => ⟨S_, .f32⟩
  | 112 => ⟨S1x12x64x64x512, .f32⟩
  | 113 => ⟨S1x12x64x64x512, .f32⟩
  | 114 => ⟨S_, .f32⟩
  | 115 => ⟨S1x12x64x64, .f32⟩
  | 116 => ⟨S_, .f32⟩
  | 117 => ⟨S1x12x64x64, .f32⟩
  | 118 => ⟨S1x12x64x64, .f32⟩
  | 119 => ⟨S1x12x64x64x1, .f32⟩
  | 120 => ⟨S1x12x64x64x512, .f32⟩
  | 121 => ⟨S1x12x64x64x512, .f32⟩
  | 122 => ⟨S1x12x64x64x512, .f32⟩
  | 123 => ⟨S_, .f32⟩
  | 124 => ⟨S1x12x64x64, .f32⟩
  | 125 => ⟨S1x12x64x64x1, .f32⟩
  | 126 => ⟨S1x12x64x64x512, .f32⟩
  | 127 => ⟨S1x12x64x64x512, .f32⟩
  | _ => ⟨S1x12x4096x64, .f32⟩

abbrev hbmTy0_1 (i : Nat) : BufTy := match i % 128 with
  | 0 => ⟨S1x12x64x64x64, .f32⟩
  | 1 => ⟨S12x4096x64, .f32⟩
  | _ => ⟨S1x12x4096x64, .f32⟩

abbrev hbmTy (i : Nat) : BufTy := match i / 128 with
  | 0 => hbmTy0_0 i
  | 1 => hbmTy0_1 i
  | _ => ⟨S1x12x4096x64, .f32⟩

abbrev bufTy : (tb : Table) → Fin (tcTables nBuf tb) → BufTy
  | .hbm, ⟨i, _⟩ => hbmTy i
  | _, _ => ⟨S1x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_4 : Ref sig .tc := ⟨.hbm, 70, rfl⟩
abbrev main_v21 : Ref sig .tc := ⟨.hbm, 71, rfl⟩
abbrev main_v22 : Ref sig .tc := ⟨.hbm, 72, rfl⟩
abbrev main_c_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_6 : Ref sig .tc := ⟨.hbm, 77, rfl⟩
abbrev main_v26 : Ref sig .tc := ⟨.hbm, 78, rfl⟩
abbrev main_v27 : Ref sig .tc := ⟨.hbm, 79, rfl⟩
abbrev main_c_7 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_c_8 : Ref sig .tc := ⟨.hbm, 89, rfl⟩
abbrev main_v36 : Ref sig .tc := ⟨.hbm, 90, rfl⟩
abbrev main_v37 : Ref sig .tc := ⟨.hbm, 91, rfl⟩
abbrev main_c_9 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_10 : Ref sig .tc := ⟨.hbm, 96, rfl⟩
abbrev main_v41 : Ref sig .tc := ⟨.hbm, 97, rfl⟩
abbrev main_v42 : Ref sig .tc := ⟨.hbm, 98, rfl⟩
abbrev main_c_11 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst : Ref sig .tc := ⟨.hbm, 111, rfl⟩
abbrev main_v54 : Ref sig .tc := ⟨.hbm, 112, rfl⟩
abbrev main_v55 : Ref sig .tc := ⟨.hbm, 113, rfl⟩
abbrev main_cst_12 : Ref sig .tc := ⟨.hbm, 114, rfl⟩
abbrev main_v56 : Ref sig .tc := ⟨.hbm, 115, rfl⟩
abbrev main_cst_13 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_14 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩

abbrev nD : Nat := 1
abbrev τ : Topo := Topo.v7x

variable {F : FTy → Type} [FloatOps F]
-- ==== Proof.Table.lean ====
/- The table of selected key blocks: for every head and query block the eight blocks its rows attend to — the
   two neighbours on the ring and the block itself, the two global blocks, and the three random ones —, as the
   host lines of both programs compute it; and the one fact the rest needs of it: when every random block
   index names one of the 64 blocks, so does every word of the table. -/
module

public import Idealize.ShloMosaic.Lib.StableHlo
public import Idealize.ShloMosaic.PureOps
public import Idealize.ShloMosaic.Lib.Pipeline.ValueKit

@[expose] public section

set_option maxRecDepth 16384

noncomputable section

namespace Cert.BlockTable

open Idealize.ShloMosaic

abbrev Scalar0 : Shape := ⟨0, ![]⟩
abbrev Blocks : Shape := ⟨1, ![64]⟩
abbrev Column : Shape := ⟨2, ![64, 1]⟩
abbrev Ring : Shape := ⟨2, ![64, 3]⟩
abbrev Pair : Shape := ⟨1, ![2]⟩
abbrev Global : Shape := ⟨2, ![64, 2]⟩
abbrev Fixed : Shape := ⟨2, ![64, 5]⟩
abbrev Fixed1 : Shape := ⟨3, ![1, 64, 5]⟩
abbrev FixedH : Shape := ⟨3, ![12, 64, 5]⟩
abbrev Random : Shape := ⟨3, ![12, 64, 3]⟩
abbrev Table : Shape := ⟨3, ![12, 64, 8]⟩

/-- The remainder with the sign of the divisor, lane by lane: the division's remainder, and the divisor added where
    the two signs differ; a zero divisor stands for one. -/
def remainder (x : IVec Blocks 32) (d : IVec Scalar0 32) : IVec Blocks 32 :=
  let d1 : IVec Scalar0 32 := select (cmpi .eq d (constantI Scalar0 32 0#32)) (constantI Scalar0 32 1#32) d
  let r : IVec Blocks 32 := Host.remsi x (broadcastInDim Blocks ![] (by decide) d1)
  let z : IVec Blocks 32 := broadcastInDim Blocks ![] (by decide) (constantI Scalar0 32 0#32)
  let sd : IVec Blocks 1 := broadcastInDim Blocks ![] (by decide) (cmpi .slt d1 (constantI Scalar0 32 0#32))
  select (andi (cmpi .ne (cmpi .slt r z) sd) (cmpi .ne r z)) (addi r (broadcastInDim Blocks ![] (by decide) d1)) r

/-- The blocks' own numbers, and the number of blocks. -/
def own : IVec Blocks 32 := iotaInDim Blocks 32 0
def one : IVec Blocks 32 := broadcastInDim Blocks ![] (by decide) (constantI Scalar0 32 1#32)
def before : IVec Blocks 32 := remainder (subi own one) (constantI Scalar0 32 64#32)
def after : IVec Blocks 32 := remainder (addi own one) (constantI Scalar0 32 64#32)

/-- The joins of the table's columns. -/
def joinRing (a b c : IVec Column 32) : IVec Ring 32 :=
  concatenate Ring 1 [⟨Column, a⟩, ⟨Column, b⟩, ⟨Column, c⟩] (show Shape.Concatenates [Column, Column, Column] Ring 1 by decide)
def joinGlobal (a : IVec Ring 32) (b : IVec Global 32) : IVec Fixed 32 :=
  concatenate Fixed 1 [⟨Ring, a⟩, ⟨Global, b⟩] (show Shape.Concatenates [Ring, Global] Fixed 1 by decide)
def joinRandom (a : IVec FixedH 32) (b : IVec Random 32) : IVec Table 32 :=
  concatenate Table 2 [⟨FixedH, a⟩, ⟨Random, b⟩] (show Shape.Concatenates [FixedH, Random] Table 2 by decide)

/-- The five blocks that do not depend on the arguments, for every head. -/
def fixed (ends : IVec Pair 32) : IVec FixedH 32 :=
  broadcastInDim FixedH ![0, 1, 2] (by decide) (broadcastInDim Fixed1 ![1, 2] (by decide)
    (joinGlobal (joinRing (broadcastInDim Column ![0] (by decide) before) (broadcastInDim Column ![0] (by decide) own)
      (broadcastInDim Column ![0] (by decide) after)) (broadcastInDim Global ![1] (by decide) ends)))

/-- The whole table. -/
def table (ends : IVec Pair 32) (r : IVec Random 32) : IVec Table 32 := joinRandom (fixed ends) r

/-- What holds of every word of the joined arrays holds of every word of the join. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) : P (concatenate t a xs h j) := by
  unfold concatenate
  exact hP _ (List.getElem_mem _) _

/-- The block before is a block. -/
theorem before_lt : ∀ i, (before i).toNat < 64 := by
  have h : ∀ n : Fin 64, (before (fun a => (⟨n.val, by fin_cases a; exact n.isLt⟩ : Fin (Blocks.size a)))).toNat < 64 := by decide +kernel
  intro i
  have := h (i 0)
  rwa [show (fun a => (⟨(i 0).val, by fin_cases a; exact (i 0).isLt⟩ : Fin (Blocks.size a))) = i from by
    funext a; fin_cases a; rfl] at this

/-- The block after is a block. -/
theorem after_lt : ∀ i, (after i).toNat < 64 := by
  have h : ∀ n : Fin 64, (after (fun a => (⟨n.val, by fin_cases a; exact n.isLt⟩ : Fin (Blocks.size a)))).toNat < 64 := by decide +kernel
  intro i
  have := h (i 0)
  rwa [show (fun a => (⟨(i 0).val, by fin_cases a; exact (i 0).isLt⟩ : Fin (Blocks.size a))) = i from by
    funext a; fin_cases a; rfl] at this

/-- A block's own number is below 64. -/
theorem own_lt : ∀ i, (own i).toNat < 64 := by
  intro i
  have hi : (i 0).val < 64 := (i 0).isLt
  simp only [own, iotaInDim, BitVec.toNat_ofNat]
  omega

/-- Joining keeps words below 64: the three ring columns, -/
theorem joinRing_lt (a b c : IVec Column 32) (ha : ∀ i, (a i).toNat < 64) (hb : ∀ i, (b i).toNat < 64)
    (hc : ∀ i, (c i).toNat < 64) (i : Ring.Idx) : (joinRing a b c i).toNat < 64 := by
  refine concatenate_forall (fun w : BitVec 32 => w.toNat < 64) Ring 1 [⟨Column, a⟩, ⟨Column, b⟩, ⟨Column, c⟩]
    (show Shape.Concatenates [Column, Column, Column] Ring 1 by decide) ?_ i
  intro p hp
  simp only [List.mem_cons, List.not_mem_nil, or_false] at hp
  rcases hp with rfl | rfl | rfl
  · exact ha
  · exact hb
  · exact hc

/-- the global columns, -/
theorem joinGlobal_lt (a : IVec Ring 32) (b : IVec Global 32) (ha : ∀ i, (a i).toNat < 64) (hb : ∀ i, (b i).toNat < 64)
    (i : Fixed.Idx) : (joinGlobal a b i).toNat < 64 := by
  refine concatenate_forall (fun w : BitVec 32 => w.toNat < 64) Fixed 1 [⟨Ring, a⟩, ⟨Global, b⟩]
    (show Shape.Concatenates [Ring, Global] Fixed 1 by decide) ?_ i
  intro p hp
  simp only [List.mem_cons, List.not_mem_nil, or_false] at hp
  rcases hp with rfl | rfl
  · exact ha
  · exact hb

/-- and the random columns. -/
theorem joinRandom_lt (a : IVec FixedH 32) (b : IVec Random 32) (ha : ∀ i, (a i).toNat < 64) (hb : ∀ i, (b i).toNat < 64)
    (i : Table.Idx) : (joinRandom a b i).toNat < 64 := by
  refine concatenate_forall (fun w : BitVec 32 => w.toNat < 64) Table 2 [⟨FixedH, a⟩, ⟨Random, b⟩]
    (show Shape.Concatenates [FixedH, Random] Table 2 by decide) ?_ i
  intro p hp
  simp only [List.mem_cons, List.not_mem_nil, or_false] at hp
  rcases hp with rfl | rfl
  · exact ha
  · exact hb

/-- Every word of the table names a block, when the words it is made of do. -/
theorem table_lt (ends : IVec Pair 32) (r : IVec Random 32) (he : ∀ i, (ends i).toNat < 64) (hr : ∀ i, (r i).toNat < 64)
    (i : Table.Idx) : (table ends r i).toNat < 64 := by
  refine joinRandom_lt _ _ (fun j => ?_) hr i
  simp only [fixed, broadcastInDim]
  exact joinGlobal_lt _ _ (fun k => joinRing_lt _ _ _ (fun _ => before_lt _) (fun _ => own_lt _) (fun _ => after_lt _) k)
    (fun _ => he _) _

end Cert.BlockTable

end
-- ==== Proof.Sel.lean ====
module

public import proofs.«01_k».proof.Proof.Gen.KernelIdeal.Frame.Runs
public import proofs.«01_k».proof.Proof.Table
public import Idealize.ShloMosaic.Lib.Claim
public import Idealize.ShloMosaic.Lib.Pipeline.ValueKit

@[expose] public section

/-!
The table that the host lines hand the launch is the block table of Table.lean.
-/

set_option maxRecDepth 16384

noncomputable section

namespace Cert.KernelIdeal.Sel

open Idealize.ShloMosaic Idealize.ShloMosaic.TcCoe
open Cert.KernelIdeal Cert.KernelIdeal.Gen

variable {F : FTy → Type} [FloatOps F]

/-- The host lines that build the table, with its joins by name. -/
theorem line4 : (hostOps0_4 : List (HloOp τ sig (Elt F))) =
  [ StableHlo.unary main_v11 main_v15 (broadcastInDim S64x1 ![0] bcast_S64_S64x1_0 : (⟨S64, .i32⟩ : BufTy).Contents (Elt F) → (⟨S64x1, .i32⟩ : BufTy).Contents (Elt F)),
    StableHlo.unary main_v8 main_v16 (broadcastInDim S64x1 ![0] bcast_S64_S64x1_0 : (⟨S64, .i32⟩ : BufTy).Contents (Elt F) → (⟨S64x1, .i32⟩ : BufTy).Contents (Elt F)),
    StableHlo.unary main_v14 main_v17 (broadcastInDim S64x1 ![0] bcast_S64_S64x1_0 : (⟨S64, .i32⟩ : BufTy).Contents (Elt F) → (⟨S64x1, .i32⟩ : BufTy).Contents (Elt F)),
    StableHlo.nary ![main_v15, main_v16, main_v17] main_v18 (fun u => BlockTable.joinRing (u 0) (u 1) (u 2)),
    StableHlo.unary main_c main_v19 (broadcastInDim S64x2 ![1] bcast_S2_S64x2_1 : (⟨S2, .i32⟩ : BufTy).Contents (Elt F) → (⟨S64x2, .i32⟩ : BufTy).Contents (Elt F)),
    StableHlo.binary main_v18 main_v19 main_v20 (BlockTable.joinGlobal : (⟨S64x3, .i32⟩ : BufTy).Contents (Elt F) → (⟨S64x2, .i32⟩ : BufTy).Contents (Elt F) → (⟨S64x5, .i32⟩ : BufTy).Contents (Elt F)),
    StableHlo.unary main_v20 main_v21 (broadcastInDim S1x64x5 ![1, 2] bcast_S64x5_S1x64x5_1_2 : (⟨S64x5, .i32⟩ : BufTy).Contents (Elt F) → (⟨S1x64x5, .i32⟩ : BufTy).Contents (Elt F)),
    StableHlo.unary main_v21 main_v22 (broadcastInDim S12x64x5 ![0, 1, 2] bcast_S1x64x5_S12x64x5_0_1_2 : (⟨S1x64x5, .i32⟩ : BufTy).Contents (Elt F) → (⟨S12x64x5, .i32⟩ : BufTy).Contents (Elt F)),
    StableHlo.binary main_v22 main_arg3 main_v23 (BlockTable.joinRandom : (⟨S12x64x5, .i32⟩ : BufTy).Contents (Elt F) → (⟨S12x64x3, .i32⟩ : BufTy).Contents (Elt F) → (⟨S12x64x8, .i32⟩ : BufTy).Contents (Elt F)) ] := rfl

/-- The launch's table is the block table of the random blocks. -/
theorem V_sel (m : (ℓ : Loc nD τ sig) → Buf (Elt F) ℓ) (c : Dev nD) :
    V m c main_v23 = BlockTable.table (fun i => lit0 (S2.rowMajor i)) (m ((c : Thread nD τ).loc main_arg3)) := by
  unfold V
  rw [line4]
  simp only [hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  dsimp only [Matrix.cons_val]
  after_results_simp
  rfl

end Cert.KernelIdeal.Sel

end
-- ==== Proof.Range.lean ====
module

public import proofs.«01_k».proof.Pre_blocks_in_range
public import proofs.«01_k».proof.Pre_finite_scores_in_range
public import Idealize.ShloMosaic.Lib.WordCmp
public import Idealize.ShloMosaic.PureOps.Ideal

@[expose] public section

/-!
What the two preconditions say of the inputs: every given block index is below 64, and (for the value claim) every query
and every key entry is a real number.
-/

noncomputable section

namespace Cert.Range

open Idealize.ShloMosaic

variable {F : FTy → Type} [FloatOps F]

/-- A bit is one when its truth value is. -/
theorem bit_of_bool (p : Bool) : BitVec.ofBool p = 1#1 ↔ p = true := by cases p <;> decide

/-- A bit-and is one only when both bits are. -/
theorem both_of_and (a b : BitVec 1) (h : IntOp.andi a b = 1#1) : a = 1#1 ∧ b = 1#1 := by
  revert a b; decide

/-- A running bit-and that ends at one met only ones. -/
theorem run_of_and {α : Type} (x : α → BitVec 1) (l : List α) (a : BitVec 1)
    (h : l.foldl (fun r n => IntOp.andi r (x n)) a = 1#1) : a = 1#1 ∧ ∀ n ∈ l, x n = 1#1 := by
  induction l generalizing a with
  | nil => exact ⟨h, by simp⟩
  | cons n l ih =>
    obtain ⟨h1, h2⟩ := ih _ h
    obtain ⟨h3, h4⟩ := both_of_and _ _ h1
    refine ⟨h3, fun k hk => ?_⟩
    rcases List.mem_cons.mp hk with rfl | hk
    · exact h4
    · exact h2 k hk

/-- An and-reduction of a whole array to one bit: if that bit is one, every element is. -/
theorem all_of_reduce {s t u : Shape} {axes : List (Fin s.rank)} (x : IVec s 1) (init : IVec u 1) (h : s.ReducesTo axes t)
    (hu : 0 < u.numel) (ht : ∀ a b : t.Idx, a = b) (j : t.Idx) (hj : Host.reduce IntOp.andi x init h hu j = 1#1) (i : s.Idx) :
    x i = 1#1 := by
  have e := (run_of_and (fun n => x (s.rowMajor.symm n)) _ _ hj).2 (s.rowMajor i)
    (List.mem_filter.mpr ⟨List.mem_finRange _, by simpa using ht _ _⟩)
  simpa using e

/-- A word that is at least 0 and below 64 read as signed is below 64 read as unsigned. -/
theorem word_lt (w : BitVec 32) (h : IntOp.andi (IntOp.cmpi .sge w 0#32) (IntOp.cmpi .slt w 64#32) = 1#1) : w.toNat < 64 := by
  obtain ⟨h1, h2⟩ := both_of_and _ _ h
  simp only [IntOp.cmpi, bit_of_bool] at h1 h2
  simp only [BitVec.sle, BitVec.slt, decide_eq_true_eq, BitVec.toInt, BitVec.toNat_ofNat] at h1 h2
  have := w.isLt
  omega

/-- A magnitude below positive infinity is the magnitude of a real number. -/
theorem real_of_abs (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have ht : Ideal.ofBits .f32 0x7F800000#32 = ⊤ := by simp [Ideal.ofBits, Ideal.ieee]
  have h' : BitVec.ofBool (decide (max x (-x) < Ideal.ofBits .f32 0x7F800000#32)) = 1#1 := h
  rw [ht, bit_of_bool, decide_eq_true_eq, max_lt_iff] at h'
  induction x with
  | bot => simp at h'
  | top => simp at h'
  | coe r => exact ⟨r, rfl⟩

/-- The first precondition: every random block is a block. -/
theorem blocks_of_range [Cert.Pre_blocks_in_range.Facts] (q k v) (r : IVec Cert.Pre_blocks_in_range.S12x64x3 32)
    (h : Cert.Pre_blocks_in_range.fn (F := F) q k v r = fun _ => 1#1) (i) : (r i).toNat < 64 :=
  word_lt _ (congrFun h i)

section
variable [Cert.Pre_finite_scores_in_range.Facts]
open Cert.Pre_finite_scores_in_range

/-- The second precondition says the same. -/
theorem blocks_of_finite (q k v) (r : IVec S12x64x3 32) (h : fn (F := F) q k v r = fun _ => 1#1) (i) : (r i).toNat < 64 :=
  word_lt _ (both_of_and _ _ (congrFun h i)).1

/-- And it says that every query and key entry is real. -/
theorem real_of_finite (q k v : FVec Ideal S1x12x4096x64 .f32) (r : IVec S12x64x3 32) (h : fn (F := Ideal) q k v r = fun _ => 1#1) (i) :
    (∃ x : ℝ, q i = (x : EReal)) ∧ ∃ x : ℝ, k i = (x : EReal) := by
  have e := (both_of_and _ _ (congrFun h (Shape.Idx.first (s := S12x64x3) (by decide)))).2
  obtain ⟨h1, h2⟩ := both_of_and _ _ e
  exact ⟨real_of_abs _ (all_of_reduce _ _ _ _ (fun a b => funext fun x => x.elim0) _ h1 i),
    real_of_abs _ (all_of_reduce _ _ _ _ (fun a b => funext fun x => x.elim0) _ h2 i)⟩
end

end Cert.Range

end
-- ==== Proof.Hyps.lean ====
module

public import proofs.«01_k».proof.Proof.Sel
public import proofs.«01_k».proof.Proof.Range

@[expose] public section

/-!
The kernel's loads stay inside the key and value arrays: every word of the block table is below 64, so 64 rows from row
64·word on lie within the 4096.
-/

set_option maxRecDepth 16384

noncomputable section

namespace Cert.KernelIdeal.Sel

open Idealize.ShloMosaic Idealize.ShloMosaic.TcCoe
open Cert.KernelIdeal Cert.KernelIdeal.Gen

variable {F : FTy → Type} [FloatOps F]

/-- The row a block starts at, of a block number below 64: 64 times the number, with no wrap. -/
theorem row_eq (w : BitVec 32) (h : w.toNat < 64) : k0_off2 w = ![0, 64 * w.toNat, 0] := by
  have : (Scalar.indexCast (Scalar.muli w 64#32)).toNat = 64 * w.toNat := by
    show (w * 64#32).toNat = _
    rw [BitVec.toNat_mul, BitVec.toNat_ofNat]
    omega
  show ![(0#32).toNat, (Scalar.indexCast (Scalar.muli w 64#32)).toNat, (0#32).toNat] = _
  rw [this]; rfl

/-- 64 rows from row 64·word lie within the 4096. -/
theorem rows_inside (w : BitVec 32) (h : w.toNat < 64) : k0_chk1 w := by
  unfold k0_chk1
  rw [row_eq w h]
  intro a
  fin_cases a
  · exact (by decide : 0 + 1 ≤ 1)
  · show 64 * w.toNat + 64 ≤ 4096
    omega
  · exact (by decide : 0 + 64 ≤ 64)

/-- The two global blocks are blocks. -/
theorem ends_lt (i : S2.Idx) : (lit0 (S2.rowMajor i)).toNat < 64 :=
  (by decide +kernel : ∀ n : Fin S2.numel, (lit0 n).toNat < 64) _

variable (m : (ℓ : Loc nD τ sig) → Buf (Elt F) ℓ)

/-- The prefetched table is the block table of the random blocks. -/
theorem tbl_eq : tbl m 0 = BlockTable.table (fun i => lit0 (S2.rowMajor i)) (m (((0 : Dev nD) : Thread nD τ).loc main_arg3)) :=
  V_sel m 0

/-- The launch asks nothing of the table for its windows. -/
theorem ok : Ok m := by
  unfold Ok ok0
  trivial

/-- Every word of the table in the launch memory is below 64. -/
theorem word_lt (hr : ∀ i, (m (((0 : Dev nD) : Thread nD τ).loc main_arg3) i).toNat < 64) (i : S12x64x8.Idx) : (tbl m 0 i).toNat < 64 := by
  rw [tbl_eq]
  exact BlockTable.table_lt _ _ ends_lt hr i

/-- A word loaded from the table at any offsets inside it names a block inside the keys and values. -/
theorem load_inside (hr : ∀ i, (m (((0 : Dev nD) : Thread nD τ).loc main_arg3) i).toNat < 64) (off : Fin 3 → Nat)
    (inb : ∀ a, off a + S1x1x1.size a ≤ S12x64x8.size a) :
    k0_chk1 (tbM0_0.view.readAt (Elt F) (Rect.unit (s := S12x64x8) off S1x1x1.size inb).toLoadRect (tbl m 0)
      (Shape.Idx.first (numel1_S1x1x1.symm ▸ Nat.one_pos))) :=
  rows_inside _ (word_lt m hr _)

/-- So every load of the body is inside its array. -/
theorem hyps (hO : Ok m) (hr : ∀ i, (m (((0 : Dev nD) : Thread nD τ).loc main_arg3) i).toNat < 64) : Hyps m hO := by
  apply Hyps.of <;> exact fun c t => load_inside m hr _ _

end Cert.KernelIdeal.Sel

end
-- ==== Proof.Tile.lean ====
module

public import proofs.«01_k».proof.Proof.Gen.KernelIdeal
public import Idealize.ShloMosaic.Lib.Pipeline.ValueKit

@[expose] public section

/-!
What the kernel computes for one block of 64 queries: from its query tile, eight key tiles and eight value tiles, the
softmax-weighted average of the 512 value rows, with the exponentials taken without a shift.
-/

set_option maxRecDepth 16384

noncomputable section

namespace Cert.KernelIdeal.Tile

open Idealize.ShloMosaic Idealize.ShloMosaic.TcCoe
open Cert.KernelIdeal Cert.KernelIdeal.Gen

/-- One query row's attention over 512 key rows and one value column: the exponentials of the scores weigh the values. -/
def attend (q : Fin 64 → EReal) (K : Fin 512 → Fin 64 → EReal) (v : Fin 512 → EReal) : EReal :=
  Ideal.div (∑ n : Fin 512, Ideal.exp (∑ e : Fin 64, q e * K n e) * v n) (∑ n : Fin 512, Ideal.exp (∑ e : Fin 64, q e * K n e))

/-- The key row that score `n` of query block `b` of head `h` is with: row `n % 64` of the block the table names at `n / 64`. -/
def row (T : IVec S12x64x8 32) (h : Fin 12) (b : Fin 64) (n : Fin 512) : Fin 4096 :=
  ⟨64 * min (T (ix3 h b ⟨n / 64, by omega⟩)).toNat 63 + n % 64, by omega⟩

/-- The kernel's result over the scaled queries, the keys, the values and the block table. -/
def attention (q k v : FVec Ideal S12x4096x64 .bf16) (T : IVec S12x64x8 32) : FVec Ideal S12x4096x64 .f32 := fun i =>
  attend (fun e => q (ix3 (i 0) (i 1) e))
    (fun n e => k (ix3 (i 0) (row T (i 0) ⟨(i 1 : ℕ) / 64, by have : (i 1 : ℕ) < 4096 := (i 1).isLt; omega⟩ n) e))
    (fun n => v (ix3 (i 0) (row T (i 0) ⟨(i 1 : ℕ) / 64, by have : (i 1 : ℕ) < 4096 := (i 1).isLt; omega⟩ n) (i 2)))

section
variable {F : FTy → Type} [FloatOps F]

/-- A tile of 64 rows without its leading axis of one. -/
def flat (x : Vec F S1x64x64 .bf16) : FVec F S64x64 .bf16 := shapeCast S64x64 x shapeCasts_S1x64x64_S64x64

/-- Eight tiles of 64 rows stacked into 512. -/
def stack (k0 k1 k2 k3 k4 k5 k6 k7 : Vec F S1x64x64 .bf16) : FVec F S512x64 .bf16 :=
  concatenate S512x64 0 [⟨S64x64, flat k0⟩, ⟨S64x64, flat k1⟩, ⟨S64x64, flat k2⟩, ⟨S64x64, flat k3⟩, ⟨S64x64, flat k4⟩,
    ⟨S64x64, flat k5⟩, ⟨S64x64, flat k6⟩, ⟨S64x64, flat k7⟩]
    concatenates_S64x64_S64x64_S64x64_S64x64_S64x64_S64x64_S64x64_S64x64_S512x64_d0

/-- The exponentials of the tile's 64 × 512 scores. -/
def weights (q : Vec F S1x64x64 .bf16) (K : FVec F S512x64 .bf16) : FVec F S64x512 .f32 :=
  exp (matmul dot_S64x64_S512x64_S64x512_1_1_0_0_n_n none (flat q) K (constant S64x512 .f32 0x00000000#32))

/-- The weighted sum of the value rows over the sum of the weights. -/
def average (p : FVec F S64x512 .f32) (V : FVec F S512x64 .bf16) : FVec F S1x64x64 .f32 :=
  shapeCast S1x64x64
    (divf (matmul dot_S64x512_S512x64_S64x64_1_0_0_1_n_n none (truncf .bf16 p bitsLt_bf16_f32) V (constant S64x64 .f32 0x00000000#32))
      (broadcastTo S64x64 (shapeCast S64x1 (multiReduction .add [1] S64 p 0x00000000#32 reduces_S64x512_S64 (.inl rfl) rfl)
        shapeCasts_S64_S64x1) broadcasts_S64x1_S64x64))
    shapeCasts_S64x64_S1x64x64

/-- One query block's payload, from its queries and its eight blocks of keys and of values. -/
def tile (q k0 k1 k2 k3 k4 k5 k6 k7 v0 v1 v2 v3 v4 v5 v6 v7 : Vec F S1x64x64 .bf16) : FVec F S1x64x64 .f32 :=
  average (weights q (stack k0 k1 k2 k3 k4 k5 k6 k7)) (stack v0 v1 v2 v3 v4 v5 v6 v7)

end

/-- Eight tiles that hold rows 64·j … 64·j+63 of one array, stacked, are the array. -/
theorem stack_at (K : Fin 512 → Fin 64 → EReal) (k0 k1 k2 k3 k4 k5 k6 k7 : Vec Ideal S1x64x64 .bf16)
    (h0 : ∀ a e : Fin 64, k0 (ix3 0 a e) = K ⟨a, by omega⟩ e) (h1 : ∀ a e : Fin 64, k1 (ix3 0 a e) = K ⟨64 + a, by omega⟩ e)
    (h2 : ∀ a e : Fin 64, k2 (ix3 0 a e) = K ⟨128 + a, by omega⟩ e) (h3 : ∀ a e : Fin 64, k3 (ix3 0 a e) = K ⟨192 + a, by omega⟩ e)
    (h4 : ∀ a e : Fin 64, k4 (ix3 0 a e) = K ⟨256 + a, by omega⟩ e) (h5 : ∀ a e : Fin 64, k5 (ix3 0 a e) = K ⟨320 + a, by omega⟩ e)
    (h6 : ∀ a e : Fin 64, k6 (ix3 0 a e) = K ⟨384 + a, by omega⟩ e) (h7 : ∀ a e : Fin 64, k7 (ix3 0 a e) = K ⟨448 + a, by omega⟩ e)
    (n : Fin 512) (e : Fin 64) : stack (F := Ideal) k0 k1 k2 k3 k4 k5 k6 k7 (ix2 n e) = K n e := by
  pointwise [stack, flat]
  have hn := n.isLt
  simp only [h0, h1, h2, h3, h4, h5, h6, h7]
  split_ifs <;> exact congrFun (congrArg K (Fin.ext (by first | rfl | (simp only []; omega)))) e

/-- An entry of the average. -/
theorem average_at (p : FVec Ideal S64x512 .f32) (V : FVec Ideal S512x64 .bf16) (x : S1x64x64.Idx) :
    average (F := Ideal) p V x = Ideal.div (∑ n : Fin 512, p (ix2 (x 1) n) * V (ix2 n (x 2))) (∑ n : Fin 512, p (ix2 (x 1) n)) := by
  pointwise [average]

/-- An exponential of a score. -/
theorem weights_at (q : Vec Ideal S1x64x64 .bf16) (K : FVec Ideal S512x64 .bf16) (a : Fin 64) (n : Fin 512) :
    weights (F := Ideal) q K (ix2 a n) = Ideal.exp (∑ e : Fin 64, q (ix3 0 a e) * K (ix2 n e)) := by
  pointwise [weights, flat]

/-- One tile's result at a row and a column, over the 512 key and value rows the tiles hold. -/
theorem tile_at (K V : Fin 512 → Fin 64 → EReal) (q k0 k1 k2 k3 k4 k5 k6 k7 v0 v1 v2 v3 v4 v5 v6 v7 : Vec Ideal S1x64x64 .bf16)
    (x : S1x64x64.Idx) (hk : ∀ n e, stack (F := Ideal) k0 k1 k2 k3 k4 k5 k6 k7 (ix2 n e) = K n e)
    (hv : ∀ n e, stack (F := Ideal) v0 v1 v2 v3 v4 v5 v6 v7 (ix2 n e) = V n e) :
    tile (F := Ideal) q k0 k1 k2 k3 k4 k5 k6 k7 v0 v1 v2 v3 v4 v5 v6 v7 x
      = attend (fun e => q (ix3 0 (x 1) e)) K (fun n => V n (x 2)) := by
  refine (average_at _ _ x).trans ?_
  have hw : ∀ n : Fin 512, weights (F := Ideal) q (stack k0 k1 k2 k3 k4 k5 k6 k7) (ix2 (x 1) n)
      = Ideal.exp (∑ e : Fin 64, q (ix3 0 (x 1) e) * K n e) := fun n => by
    refine (weights_at q _ (x 1) n).trans ?_
    simp only [hk]
  have hc : ∀ n : Fin 512, stack (F := Ideal) v0 v1 v2 v3 v4 v5 v6 v7 (ix2 n (x 2)) = V n (x 2) := fun n => hv n (x 2)
  simp only [hw, hc]
  rfl

end Cert.KernelIdeal.Tile

end
-- ==== Proof.Loads.lean ====
module

public import proofs.«01_k».proof.Proof.Hyps
public import proofs.«01_k».proof.Proof.Tile

@[expose] public section

/-!
The body's loads at an index: the word it reads of the block table, the tile of 64 rows that word names, and with them one
block's stored tile over the point's input blocks.
-/

set_option maxRecDepth 16384

noncomputable section

namespace Cert.KernelIdeal.Tile

open Idealize.ShloMosaic Idealize.ShloMosaic.TcCoe
open Cert.KernelIdeal Cert.KernelIdeal.Gen

/-- The offsets of word `j` of query block `B` of the grid point's eight. -/
def wordOff (B j : ℕ) (i : grid0.Coords) : Fin 3 → ℕ :=
  ![(BitVec.ofNat 32 (i 0).val).toNat, (BitVec.ofNat 32 (i 1).val * 8#32 + BitVec.ofNat 32 B).toNat, j]

/-- The word's place is head, query block and pick. -/
theorem wordOff_eq (B j : ℕ) (hB : B < 8) (i : grid0.Coords) : wordOff B j i = ![(i 0).val, 8 * (i 1).val + B, j] := by
  have h0 : (i 0).val < 12 := (i 0).isLt
  have h1 : (i 1).val < 8 := (i 1).isLt
  have e0 : (BitVec.ofNat 32 (i 0).val).toNat = (i 0).val := by rw [BitVec.toNat_ofNat]; omega
  have e1 : (BitVec.ofNat 32 (i 1).val * 8#32 + BitVec.ofNat 32 B).toNat = 8 * (i 1).val + B := by
    rw [BitVec.toNat_add, BitVec.toNat_mul, BitVec.toNat_ofNat, BitVec.toNat_ofNat, BitVec.toNat_ofNat]; omega
  unfold wordOff
  rw [e0, e1]

/-- The word the body reads there. -/
abbrev word (T : IVec S12x64x8 32) (B j : ℕ) (i : grid0.Coords) (inb : ∀ a, wordOff B j i a + S1x1x1.size a ≤ S12x64x8.size a) : BitVec 32 :=
  tbM0_0.view.readAt (Elt Ideal) (Rect.unit (s := S12x64x8) (wordOff B j i) S1x1x1.size inb).toLoadRect T
    (Shape.Idx.first (numel1_S1x1x1.symm ▸ Nat.one_pos))

/-- The query block a grid point's block `B` is, of the head's 64. -/
def blockOf (i : grid0.Coords) (B : Fin 8) : Fin 64 :=
  ⟨8 * (i 1).val + B, by have h1 : (i 1).val < 8 := (i 1).isLt; omega⟩

/-- The word read is the table's entry there. -/
theorem word_eq (T : IVec S12x64x8 32) (B j : Fin 8) (i : grid0.Coords) (inb) : word T B j i inb = T (ix3 (i 0) (blockOf i B) j) := by
  have e := wordOff_eq B j B.isLt i
  have h : ∀ a : Fin 3, wordOff B j i a = ((ix3 (i 0) (blockOf i B) j : S12x64x8.Idx) a).val := by
    intro a; rw [e]; fin_cases a <;> rfl
  refine congrArg T (funext fun a => Fin.ext ?_)
  show wordOff B j i a + 1 * 0 = _
  rw [h a]
  rfl

/-- The 64 rows loaded at the row a word names. -/
abbrev rows (X : Vec Ideal S1x4096x64 .bf16) (w : BitVec 32) (inb : ∀ a, k0_off2 w a + S1x64x64.size a ≤ S1x4096x64.size a) :
    Vec Ideal S1x64x64 .bf16 :=
  View.ld X (Rect.unit (s := S1x4096x64) (k0_off2 w) S1x64x64.size inb)

/-- The rows loaded are those of the named block. -/
theorem rows_at (X : Vec Ideal S1x4096x64 .bf16) (w : BitVec 32) (hw : w.toNat < 64) (inb) (a e : Fin 64) :
    rows X w inb (ix3 0 a e) = X (ix3 0 ⟨64 * w.toNat + a, by omega⟩ e) := by
  refine View.ld_unit_apply_of X (k0_off2 w) S1x64x64.size inb _ _ fun b => ?_
  refine Eq.trans ?_ (congrArg (fun o : Fin 3 → ℕ => o b + ((ix3 0 a e : S1x64x64.Idx) b).val) (Sel.row_eq w hw).symm)
  fin_cases b <;> simp [ix3]

/-- The tile of keys or values that word `j` of query block `B` names, at an index: its rows are the block's 64 rows. -/
theorem named_at (T : IVec S12x64x8 32) (hT : ∀ a, (T a).toNat < 64) (X : Vec Ideal S1x4096x64 .bf16) (B j : Fin 8)
    (i : grid0.Coords) (inb inb') (n : Fin 512) (a e : Fin 64) (hn : (n : ℕ) = 64 * j + a) :
    rows X (word T B j i inb) inb' (ix3 0 a e) = X (ix3 0 (row T (i 0) (blockOf i B) n) e) := by
  have hw := word_eq T B j i inb
  have hlt : (word T B j i inb).toNat < 64 := by rw [hw]; exact hT _
  rw [rows_at X _ hlt]
  refine congrArg (fun r => X (ix3 0 r e)) (Fin.ext ?_)
  have hj : (⟨n / 64, by omega⟩ : Fin 8) = j := Fin.ext (by simp only []; omega)
  have hlt' := hT (ix3 (i 0) (blockOf i B) j)
  show 64 * (word T B j i inb).toNat + (a : ℕ) = 64 * min (T (ix3 (i 0) (blockOf i B) ⟨n / 64, _⟩)).toNat 63 + n % 64
  rw [hw, hj]
  omega

/-- The eight tiles the words of query block `B` name, stacked. -/
theorem stack_named (T : IVec S12x64x8 32) (hT : ∀ a, (T a).toNat < 64) (X : Vec Ideal S1x4096x64 .bf16) (B : Fin 8)
    (i : grid0.Coords) (b0 b1 b2 b3 b4 b5 b6 b7 c0 c1 c2 c3 c4 c5 c6 c7) (n : Fin 512) (e : Fin 64) :
    stack (F := Ideal) (rows X (word T B 0 i b0) c0) (rows X (word T B 1 i b1) c1) (rows X (word T B 2 i b2) c2)
      (rows X (word T B 3 i b3) c3) (rows X (word T B 4 i b4) c4) (rows X (word T B 5 i b5) c5) (rows X (word T B 6 i b6) c6)
      (rows X (word T B 7 i b7) c7) (ix2 n e) = X (ix3 0 (row T (i 0) (blockOf i B) n) e) :=
  stack_at (fun n e => X (ix3 0 (row T (i 0) (blockOf i B) n) e)) _ _ _ _ _ _ _ _
    (fun a e => named_at T hT X B 0 i b0 c0 _ a e (by simp)) (fun a e => named_at T hT X B 1 i b1 c1 _ a e (by simp))
    (fun a e => named_at T hT X B 2 i b2 c2 _ a e (by simp)) (fun a e => named_at T hT X B 3 i b3 c3 _ a e (by simp))
    (fun a e => named_at T hT X B 4 i b4 c4 _ a e (by simp)) (fun a e => named_at T hT X B 5 i b5 c5 _ a e (by simp))
    (fun a e => named_at T hT X B 6 i b6 c6 _ a e (by simp)) (fun a e => named_at T hT X B 7 i b7 c7 _ a e (by simp)) n e

/-- What the body stores for query block `B`, over the point's blocks `Q` of queries, `X` of keys and `Y` of values. -/
theorem stored (T : IVec S12x64x8 32) (hT : ∀ a, (T a).toNat < 64) (Q : Vec Ideal S1x512x64 .bf16) (X Y : Vec Ideal S1x4096x64 .bf16)
    (B : Fin 8) (i : grid0.Coords) {qb} {b0 b1 b2 b3 b4 b5 b6 b7 c0 c1 c2 c3 c4 c5 c6 c7 d0 d1 d2 d3 d4 d5 d6 d7 e0 e1 e2 e3 e4 e5 e6 e7}
    (x : S1x64x64.Idx) :
    tile (F := Ideal) (View.ld Q (Rect.unit (s := S1x512x64) ![0, 64 * B, 0] S1x64x64.size qb) : Vec Ideal S1x64x64 .bf16)
      (rows X (word T B 0 i b0) c0) (rows X (word T B 1 i b1) c1) (rows X (word T B 2 i b2) c2)
      (rows X (word T B 3 i b3) c3) (rows X (word T B 4 i b4) c4) (rows X (word T B 5 i b5) c5) (rows X (word T B 6 i b6) c6)
      (rows X (word T B 7 i b7) c7)
      (rows Y (word T B 0 i d0) e0) (rows Y (word T B 1 i d1) e1) (rows Y (word T B 2 i d2) e2)
      (rows Y (word T B 3 i d3) e3) (rows Y (word T B 4 i d4) e4) (rows Y (word T B 5 i d5) e5) (rows Y (word T B 6 i d6) e6)
      (rows Y (word T B 7 i d7) e7) x
      = attend (fun e => Q (ix3 0 ⟨64 * B + (x 1).val, by have : (x 1).val < 64 := (x 1).isLt; omega⟩ e))
          (fun n e => X (ix3 0 (row T (i 0) (blockOf i B) n) e)) (fun n => Y (ix3 0 (row T (i 0) (blockOf i B) n) (x 2))) := by
  refine (tile_at (fun n e => X (ix3 0 (row T (i 0) (blockOf i B) n) e)) (fun n e => Y (ix3 0 (row T (i 0) (blockOf i B) n) e)) _
    _ _ _ _ _ _ _ _ _ _ _ _ _ _ _ _ x (stack_named T hT X B i b0 b1 b2 b3 b4 b5 b6 b7 c0 c1 c2 c3 c4 c5 c6 c7)
    (stack_named T hT Y B i d0 d1 d2 d3 d4 d5 d6 d7 e0 e1 e2 e3 e4 e5 e6 e7)).trans ?_
  refine congrArg (fun q => attend q _ _) (funext fun e => ?_)
  refine View.ld_unit_apply_of Q ![0, 64 * B, 0] S1x64x64.size qb _ _ fun b => ?_
  fin_cases b <;> simp [ix3]

end Cert.KernelIdeal.Tile

end
-- ==== Proof.Blocks.lean ====
module

public import proofs.«01_k».proof.Proof.Loads
public import proofs.«01_k».proof.Proof.Gen.KernelIdeal.Frame
public import Idealize.ShloMosaic.Lib.Pipeline.Covers

@[expose] public section

/-!
Where the blocks lie: the point's block of queries and of the result is 512 rows of one head, its blocks of keys and values
the whole head; and the result's blocks cover the result.
-/

set_option maxRecDepth 16384

noncomputable section

namespace Cert.KernelIdeal.Tile

open Idealize.ShloMosaic Idealize.ShloMosaic.TcCoe
open Cert.KernelIdeal Cert.KernelIdeal.Gen

variable (m : (ℓ : Loc nD τ sig) → Buf (Elt Ideal) ℓ) (hO : Ok m)

/-- A point's head, through its 32-bit word. -/
theorem coord0 (i : grid0.Coords) : (BitVec.ofNat 32 (i 0).val).toNat = (i 0).val := by
  have h : (i 0).val < 12 := (i 0).isLt
  rw [BitVec.toNat_ofNat]; omega

/-- A point's group of query blocks, through its 32-bit word. -/
theorem coord1 (i : grid0.Coords) : (BitVec.ofNat 32 (i 1).val).toNat = (i 1).val := by
  have h : (i 1).val < 8 := (i 1).isLt
  rw [BitVec.toNat_ofNat]; omega

/-- Row `r` of a point's 512, of the head's 4096. -/
def rowOf (i : grid0.Coords) (r : Fin 512) : Fin 4096 :=
  ⟨512 * (i 1).val + r, by have h1 : (i 1).val < 8 := (i 1).isLt; omega⟩

/-- The point's queries are its 512 rows of its head. -/
theorem queries_at (c : Dev nD) (t : Fin (cfgM m hO).N) (r : Fin 512) (e : Fin 64) :
    (iblk m hO c 0 t : Vec Ideal S1x512x64 .bf16) (ix3 0 r e)
      = (V m c main_v3 : FVec Ideal S12x4096x64 .bf16) (ix3 (grid0.coords t 0) (rowOf (grid0.coords t) r) e) := by
  refine congrArg (V m c main_v3 : FVec Ideal S12x4096x64 .bf16) (funext fun a => Fin.ext ?_)
  fin_cases a
  · show (BitVec.ofNat 32 (grid0.coords t 0).val).toNat * 1 + 1 * 0 = (grid0.coords t 0).val
    rw [coord0]; omega
  · show (BitVec.ofNat 32 (grid0.coords t 1).val).toNat * 512 + 1 * (r : ℕ) = 512 * (grid0.coords t 1).val + r
    rw [coord1]; omega
  · show 0 * 64 + 1 * (e : ℕ) = e
    omega

/-- The point's keys are its whole head. -/
theorem keys_at (c : Dev nD) (t : Fin (cfgM m hO).N) (r : Fin 4096) (e : Fin 64) :
    (iblk m hO c 1 t : Vec Ideal S1x4096x64 .bf16) (ix3 0 r e)
      = (V m c main_v5 : FVec Ideal S12x4096x64 .bf16) (ix3 (grid0.coords t 0) r e) := by
  refine congrArg (V m c main_v5 : FVec Ideal S12x4096x64 .bf16) (funext fun a => Fin.ext ?_)
  fin_cases a
  · show (BitVec.ofNat 32 (grid0.coords t 0).val).toNat * 1 + 1 * 0 = (grid0.coords t 0).val
    rw [coord0]; omega
  · show 0 * 4096 + 1 * (r : ℕ) = r
    omega
  · show 0 * 64 + 1 * (e : ℕ) = e
    omega

/-- The point's values are its whole head. -/
theorem values_at (c : Dev nD) (t : Fin (cfgM m hO).N) (r : Fin 4096) (e : Fin 64) :
    (iblk m hO c 2 t : Vec Ideal S1x4096x64 .bf16) (ix3 0 r e)
      = (V m c main_v7 : FVec Ideal S12x4096x64 .bf16) (ix3 (grid0.coords t 0) r e) := by
  refine congrArg (V m c main_v7 : FVec Ideal S12x4096x64 .bf16) (funext fun a => Fin.ext ?_)
  fin_cases a
  · show (BitVec.ofNat 32 (grid0.coords t 0).val).toNat * 1 + 1 * 0 = (grid0.coords t 0).val
    rw [coord0]; omega
  · show 0 * 4096 + 1 * (r : ℕ) = r
    omega
  · show 0 * 64 + 1 * (e : ℕ) = e
    omega

/-- Where an element of the point's result block lands. -/
theorem placed (t : Fin (cfgM m hO).N) (y : S1x512x64.Idx) :
    ((((cfgM m hO).win 3).blk t).view.emb y : S12x4096x64.Idx) = ix3 (grid0.coords t 0) (rowOf (grid0.coords t) (y 1)) (y 2) := by
  have h0 : (y 0 : ℕ) < 1 := (y 0).isLt
  funext a
  apply Fin.ext
  fin_cases a
  · show (BitVec.ofNat 32 (grid0.coords t 0).val).toNat * 1 + 1 * (y 0 : ℕ) = (grid0.coords t 0).val
    rw [coord0]; omega
  · show (BitVec.ofNat 32 (grid0.coords t 1).val).toNat * 512 + 1 * (y 1 : ℕ) = 512 * (grid0.coords t 1).val + (y 1 : ℕ)
    rw [coord1]; omega
  · show 0 * 64 + 1 * (y 2 : ℕ) = (y 2 : ℕ)
    omega

/-- Every block of the result is some grid point's. -/
theorem covers : ((cfgM m hO).win 3).Covers :=
  Pipeline.Window.covers_of_indexMap_surj _ rfl
    (fun a => (by decide : ∀ a : Fin 3, 0 < S1x512x64.size a) a)
    fun (β : (a : Fin 3) → Fin (((cfgM m hO).win 3).nblk a)) => by
      have b0 : (β 0).val < 12 := lt_of_lt_of_eq (β 0).isLt (by show (12 + 1 - 1) / 1 = 12; decide)
      have b1 : (β 1).val < 8 := lt_of_lt_of_eq (β 1).isLt (by show (4096 + 512 - 1) / 512 = 8; decide)
      have b2 : (β 2).val < 1 := lt_of_lt_of_eq (β 2).isLt (by show (64 + 64 - 1) / 64 = 1; decide)
      obtain ⟨i, h0, h1⟩ : ∃ i : grid0.Coords, (i 0).val = (β 0).val ∧ (i 1).val = (β 1).val :=
        ⟨fun a => match a with
          | ⟨0, _⟩ => ⟨(β 0).val, b0⟩
          | ⟨1, _⟩ => ⟨(β 1).val, b1⟩, rfl, rfl⟩
      refine ⟨i, fun (a : Fin 3) => ?_⟩
      fin_cases a
      · exact (coord0 i).trans h0
      · exact (coord1 i).trans h1
      · show 0 = (β 2).val
        omega

/-- Equal entries give equal attention. -/
theorem attend_congr {q q' : Fin 64 → EReal} {K K' : Fin 512 → Fin 64 → EReal} {v v' : Fin 512 → EReal}
    (hq : ∀ e, q e = q' e) (hK : ∀ n e, K n e = K' n e) (hv : ∀ n, v n = v' n) : attend q K v = attend q' K' v' := by
  rw [funext hq, funext fun n => funext (hK n), funext hv]

/-- A point's attention over its blocks, for its query block `B`, is the whole array's where the element lands. -/
theorem point (c : Dev nD) (t : Fin (cfgM m hO).N) (B : Fin 8) (x : S1x64x64.Idx) (y : S1x512x64.Idx)
    (h1 : (y 1 : ℕ) = 64 * B + (x 1 : ℕ)) (h2 : (y 2 : ℕ) = x 2) (T : IVec S12x64x8 32)
    {Q : FVec Ideal S1x512x64 .bf16} {X Y : FVec Ideal S1x4096x64 .bf16}
    (hQ : Q = iblk m hO c 0 t) (hX : X = iblk m hO c 1 t) (hY : Y = iblk m hO c 2 t) :
    attend (fun e => Q (ix3 0 ⟨64 * B + (x 1).val, by have : (x 1).val < 64 := (x 1).isLt; omega⟩ e))
        (fun n e => X (ix3 0 (row T (grid0.coords t 0) (blockOf (grid0.coords t) B) n) e))
        (fun n => Y (ix3 0 (row T (grid0.coords t 0) (blockOf (grid0.coords t) B) n) (x 2)))
      = attention (V m c main_v3) (V m c main_v5) (V m c main_v7) T
          ((((cfgM m hO).win 3).blk t).view.emb y : S12x4096x64.Idx) := by
  subst hQ hX hY
  have hx : (x 1).val < 64 := (x 1).isLt
  have e1 : (⟨64 * B + (x 1).val, by omega⟩ : Fin 512) = y 1 := Fin.ext h1.symm
  have e2 : (x 2 : Fin 64) = y 2 := Fin.ext h2.symm
  have eb : blockOf (grid0.coords t) B
      = ⟨(rowOf (grid0.coords t) (y 1)).val / 64, by have := (rowOf (grid0.coords t) (y 1)).isLt; omega⟩ := by
    apply Fin.ext
    show 8 * (grid0.coords t 1).val + B.val = (512 * (grid0.coords t 1).val + (y 1 : ℕ)) / 64
    omega
  refine Eq.trans ?_ (congrArg (attention (V m c main_v3) (V m c main_v5) (V m c main_v7) T) (placed m hO t y)).symm
  rw [eb, e1, e2]
  exact attend_congr (fun e => queries_at m hO c t _ e) (fun n e => keys_at m hO c t _ e) fun n => values_at m hO c t _ _

end Cert.KernelIdeal.Tile

end
-- ==== Proof.KernelValue.lean ====
module

public import proofs.«01_k».proof.Proof.Blocks

@[expose] public section

/-!
What the launch leaves in its result: the attention of the prepared queries, keys and values under the prefetched table.
-/

set_option maxRecDepth 16384

noncomputable section

namespace Cert.KernelIdeal.Tile

open Idealize.ShloMosaic Idealize.ShloMosaic.TcCoe
open Idealize.ShloMosaic.Pipeline (Dat)
open Cert.KernelIdeal Cert.KernelIdeal.Gen

variable (m : (ℓ : Loc nD τ sig) → Buf (Elt Ideal) ℓ)

/-- The launch's result, all of it: each of a point's eight stores is one query block's attention, and the points cover the array. -/
theorem final (hO : Ok m) (hH : Hyps m hO) (hT : ∀ a, (tbl m 0 a).toNat < 64) (c : Dev nD) :
    (dats m hO hH 0 c).arrAt 3 (cfgM m hO).N
      = attention (V m c main_v3) (V m c main_v5) (V m c main_v7) (tbl m 0) := by
  refine (dats m hO hH 0 c).arrAt_eq_of_covers 3 _ (covers m hO) fun t _ (y : S1x512x64.Idx) => ?_
  blk_simp
  rw [after0_3]
  unfold outsAt0
  frame_out
  canon_tiles x h
  case piece0 =>
    exact (stored (tbl m 0) hT _ _ _ 7 (grid0.coords t) x).trans
      (point m hO c t 7 x y (h1.trans (by first | rfl | omega)) h2 (tbl m 0) ((hs0_0 m hO t).read_unread _) ((hs0_1 m hO t).read_unread _)
        ((hs0_2 m hO t).read_unread _))
  case piece1 =>
    exact (stored (tbl m 0) hT _ _ _ 6 (grid0.coords t) x).trans
      (point m hO c t 6 x y (h1.trans (by first | rfl | omega)) h2 (tbl m 0) ((hs0_0 m hO t).read_unread _) ((hs0_1 m hO t).read_unread _)
        ((hs0_2 m hO t).read_unread _))
  case piece2 =>
    exact (stored (tbl m 0) hT _ _ _ 5 (grid0.coords t) x).trans
      (point m hO c t 5 x y (h1.trans (by first | rfl | omega)) h2 (tbl m 0) ((hs0_0 m hO t).read_unread _) ((hs0_1 m hO t).read_unread _)
        ((hs0_2 m hO t).read_unread _))
  case piece3 =>
    exact (stored (tbl m 0) hT _ _ _ 4 (grid0.coords t) x).trans
      (point m hO c t 4 x y (h1.trans (by first | rfl | omega)) h2 (tbl m 0) ((hs0_0 m hO t).read_unread _) ((hs0_1 m hO t).read_unread _)
        ((hs0_2 m hO t).read_unread _))
  case piece4 =>
    exact (stored (tbl m 0) hT _ _ _ 3 (grid0.coords t) x).trans
      (point m hO c t 3 x y (h1.trans (by first | rfl | omega)) h2 (tbl m 0) ((hs0_0 m hO t).read_unread _) ((hs0_1 m hO t).read_unread _)
        ((hs0_2 m hO t).read_unread _))
  case piece5 =>
    exact (stored (tbl m 0) hT _ _ _ 2 (grid0.coords t) x).trans
      (point m hO c t 2 x y (h1.trans (by first | rfl | omega)) h2 (tbl m 0) ((hs0_0 m hO t).read_unread _) ((hs0_1 m hO t).read_unread _)
        ((hs0_2 m hO t).read_unread _))
  case piece6 =>
    exact (stored (tbl m 0) hT _ _ _ 1 (grid0.coords t) x).trans
      (point m hO c t 1 x y (h1.trans (by first | rfl | omega)) h2 (tbl m 0) ((hs0_0 m hO t).read_unread _) ((hs0_1 m hO t).read_unread _)
        ((hs0_2 m hO t).read_unread _))
  case piece7 =>
    exact (stored (tbl m 0) hT _ _ _ 0 (grid0.coords t) x).trans
      (point m hO c t 0 x y (h1.trans (by first | rfl | omega)) h2 (tbl m 0) ((hs0_0 m hO t).read_unread _) ((hs0_1 m hO t).read_unread _)
        ((hs0_2 m hO t).read_unread _))

end Cert.KernelIdeal.Tile

end
-- ==== Proof.RefTerm.lean ====
module

public import proofs.«01_k».proof.Proof.Gen.ReferenceIdeal.Run
public import proofs.«01_k».proof.Proof.Tile
public import proofs.«01_k».proof.Proof.Table
public import Idealize.ShloMosaic.Lib.Pointwise

@[expose] public section

/-!
The reference's result, stage by stage, and each stage read at an index: the picked rows of keys and values, the scaled
scores, the exponentials of the scores less their largest, and the average of the values with those weights.
-/

set_option maxRecDepth 16384

noncomputable section

namespace Cert.ReferenceIdeal.Term

open Idealize.ShloMosaic Idealize.ShloMosaic.TcCoe
open Cert.ReferenceIdeal Cert.ReferenceIdeal.Gen

section
variable {F : FTy → Type} [FloatOps F]

/-- Every head's own number, a negative one counted from the end. -/
def heads : IVec S12x64x8 32 :=
  broadcastInDim S12x64x8 ![0, 1, 2] bcast_S12x1x1_S12x64x8_0_1_2
    (select (cmpi .slt (broadcastInDim S12x1x1 ![0] bcast_S12_S12x1x1_0 (iotaInDim S12 32 0)) (broadcastInDim S12x1x1 ![] bcast_S_S12x1x1 (constantI S_ 32 0#32)))
      (addi (broadcastInDim S12x1x1 ![0] bcast_S12_S12x1x1_0 (iotaInDim S12 32 0)) (broadcastInDim S12x1x1 ![] bcast_S_S12x1x1 (constantI S_ 32 12#32)))
      (broadcastInDim S12x1x1 ![0] bcast_S12_S12x1x1_0 (iotaInDim S12 32 0)))

/-- The table's block numbers, a negative one counted from the end. -/
def wrapped (T : IVec S12x64x8 32) : IVec S12x64x8 32 :=
  select (cmpi .slt T (broadcastInDim S12x64x8 ![] bcast_S_S12x64x8 (constantI S_ 32 0#32)))
    (addi T (broadcastInDim S12x64x8 ![] bcast_S_S12x64x8 (constantI S_ 32 64#32))) T

/-- Head and block of every pick. -/
def picks (T : IVec S12x64x8 32) : IVec S12x64x8x2 32 :=
  concatenate S12x64x8x2 3
    [⟨S12x64x8x1, broadcastInDim S12x64x8x1 ![0, 1, 2] bcast_S12x64x8_S12x64x8x1_0_1_2 heads⟩,
     ⟨S12x64x8x1, broadcastInDim S12x64x8x1 ![0, 1, 2] bcast_S12x64x8_S12x64x8x1_0_1_2 (wrapped T)⟩]
    concatenates_S12x64x8x1_S12x64x8x1_S12x64x8x2_d3

/-- The eight picked blocks of every query block. -/
def blocks (x : FVec F S1x12x4096x64 .f32) (T : IVec S12x64x8 32) : FVec F S1x12x64x8x64x64 .f32 :=
  Host.gather gather_S1x12x64x64x64_S12x64x8x2_S1x12x64x8x64x64_045_12_n_n_12_3_1116464
    (shapeCast S1x12x64x64x64 x shapeCasts_S1x12x4096x64_S1x12x64x64x64) (picks T)

/-- Their 512 rows. -/
def picked (x : FVec F S1x12x4096x64 .f32) (T : IVec S12x64x8 32) : FVec F S1x12x64x512x64 .f32 :=
  shapeCast S1x12x64x512x64 (blocks x T) shapeCasts_S1x12x64x8x64x64_S1x12x64x512x64

/-- The scaled scores. -/
def scores (q k : FVec F S1x12x4096x64 .f32) (T : IVec S12x64x8 32) : FVec F S1x12x64x64x512 .f32 :=
  mulf (Host.dotGeneral dot_S1x12x64x64x64_S1x12x64x512x64_S1x12x64x64x512_4_4_3_3_012_012 none
      (shapeCast S1x12x64x64x64 q shapeCasts_S1x12x4096x64_S1x12x64x64x64) (picked k T))
    (broadcastInDim S1x12x64x64x512 ![] bcast_S_S1x12x64x64x512 (constant S_ .f32 0x3E000000#32))

/-- Every row's largest score. -/
def peak (s : FVec F S1x12x64x64x512 .f32) : FVec F S1x12x64x64 .f32 :=
  maximumf (broadcastInDim S1x12x64x64 ![] bcast_S_S1x12x64x64 (constant S_ .f32 0xFF800000#32))
    (Host.reduce FloatOps.maximumf s (constant S_ .f32 0xFF800000#32) reducesTo_S1x12x64x64x512_S1x12x64x64_d4 h_S_)

/-- A number per row, along the row. -/
def along (x : FVec F S1x12x64x64 .f32) : FVec F S1x12x64x64x512 .f32 :=
  broadcastInDim S1x12x64x64x512 ![0, 1, 2, 3, 4] bcast_S1x12x64x64x1_S1x12x64x64x512_0_1_2_3_4
    (broadcastInDim S1x12x64x64x1 ![0, 1, 2, 3] bcast_S1x12x64x64_S1x12x64x64x1_0_1_2_3 x)

/-- The exponentials of the scores less the row's largest. -/
def powers (s : FVec F S1x12x64x64x512 .f32) : FVec F S1x12x64x64x512 .f32 := Host.exp (subf s (along (peak s)))

/-- The weights: each exponential over the row's sum. -/
def shares (s : FVec F S1x12x64x64x512 .f32) : FVec F S1x12x64x64x512 .f32 :=
  Host.divf (powers s)
    (along (Host.reduceAdd (powers s) (constant S_ .f32 0x00000000#32) reducesTo_S1x12x64x64x512_S1x12x64x64_d4 h_S_))

/-- The whole result. -/
def result (q k v : FVec F S1x12x4096x64 .f32) (T : IVec S12x64x8 32) : FVec F S12x4096x64 .f32 :=
  shapeCast S12x4096x64 (Host.dotGeneral dot_S1x12x64x64x512_S1x12x64x512x64_S1x12x64x64x64_4_3_3_4_012_012 none
    (shares (scores q k T)) (picked v T)) shapeCasts_S1x12x64x64x64_S12x4096x64

/-- The reference's composed term is `result` of its arguments and their block table. -/
theorem res_eq (m : (ℓ : Loc nD τ sig) → Buf (Elt F) ℓ) (c : Dev nD) :
    Value.res_main_v68 m c
      = result (m ((c.tc : Thread nD τ).loc main_arg0)) (m ((c.tc : Thread nD τ).loc main_arg1)) (m ((c.tc : Thread nD τ).loc main_arg2))
          (BlockTable.table (fun i => lit0 (S2.rowMajor i)) (m ((c.tc : Thread nD τ).loc main_arg3))) := by
  unfold Value.res_main_v68
  rfl
end

open Cert.KernelIdeal.Tile (row)

/-- No head is negative: the number is the head's own. -/
theorem heads_at (i : S12x64x8.Idx) : heads i = BitVec.ofNat 32 (i 0).val := by
  have h : ∀ a : Fin 12, Scalar.select (Scalar.cmpi .slt (BitVec.ofNat 32 a.val) 0#32) (BitVec.ofNat 32 a.val + 12#32) (BitVec.ofNat 32 a.val)
      = BitVec.ofNat 32 a.val := by decide +kernel
  exact h (i 0)

/-- A pick's first word is its head. -/
theorem picks_head (T : IVec S12x64x8 32) (h : Fin 12) (n : Fin 64) (s : Fin 8) :
    picks T (ix4 h n s 0) = BitVec.ofNat 32 h.val := by
  pointwise [picks, heads_at]

/-- A word below 64 is not negative, so it is kept. -/
theorem unwrapped (w : BitVec 32) (h : w.toNat < 64) :
    Scalar.select (IntOp.cmpi .slt w 0#32) (IntOp.addi w 64#32) w = w := by
  have h0 : IntOp.cmpi .slt w 0#32 = 0#1 := by
    show BitVec.ofBool (w.slt 0#32) = 0#1
    rw [show w.slt 0#32 = false by
      simp only [BitVec.slt, BitVec.toInt_eq_toNat_of_lt (show 2 * w.toNat < 2 ^ 32 by omega)]
      exact decide_eq_false (by simp)]
    rfl
  rw [h0]
  rfl

/-- The gather's dimension numbers. -/
abbrev gd := gather_S1x12x64x64x64_S12x64x8x2_S1x12x64x8x64x64_045_12_n_n_12_3_1116464

/-- A pick's second word is the table's. -/
theorem picks_block (T : IVec S12x64x8 32) (hT : ∀ a, (T a).toNat < 64) (h : Fin 12) (n : Fin 64) (s : Fin 8) :
    picks T (ix4 h n s 1) = T (ix3 h n s) := by
  pointwise [picks, wrapped]
  exact unwrapped _ (hT _)

/-- The gather's reading of an index component in range. -/
theorem clamp {w : BitVec 32} {n : ℕ} (hn : n < 4096) (h : w.toNat < n) : min w.toInt.toNat (n - 1) = w.toNat := by
  rw [BitVec.toInt_eq_toNat_of_lt (by omega)]
  omega

section
variable (T : IVec S12x64x8 32) (h : Fin 12) (n : Fin 64) (s : Fin 8) (r e : Fin 64)

/-- The gather reads the only batch, -/
theorem unit_coord (b : Fin 1) : gd.start (ix6 b h n s r e) (picks T) (0 : Fin 5) + gd.batchCoord (ix6 b h n s r e) (0 : Fin 5)
    + gd.offCoord (ix6 b h n s r e) (0 : Fin 5) = 0 := by
  have hb := b.isLt
  rw [GatherDims.batchCoord_eq_zero _ _ _ List.not_mem_nil]
  unfold GatherDims.start GatherDims.offCoord
  rw [dif_neg (show ¬ (0 : Fin 5) ∈ gd.startIndexMap by decide), dif_pos (show (0 : Fin 5) ∈ gd.sKept by decide)]
  have h4 : gd.offsetDims[List.idxOf (0 : Fin 5) gd.sKept]'(by decide) = (0 : Fin 6) := by decide
  rw [h4]
  show 0 + 0 + b.val = 0
  omega

/-- the pick's head, -/
theorem head_coord : gd.start (ix6 0 h n s r e) (picks T) (1 : Fin 5) + gd.batchCoord (ix6 0 h n s r e) (1 : Fin 5)
    + gd.offCoord (ix6 0 h n s r e) (1 : Fin 5) = h.val := by
  rw [GatherDims.batchCoord_eq_zero _ _ _ List.not_mem_nil]
  unfold GatherDims.start GatherDims.offCoord
  rw [dif_pos (show (1 : Fin 5) ∈ gd.startIndexMap by decide), dif_neg (show ¬ (1 : Fin 5) ∈ gd.sKept by decide)]
  rw [show gd.siIdx (ix6 0 h n s r e) ⟨List.idxOf (1 : Fin 5) gd.startIndexMap, by decide⟩ = ix4 h n s 0 from by
    funext b; refine Fin.ext ?_; fin_cases b <;> rfl, picks_head]
  have hh := h.isLt
  have e1 : (BitVec.ofNat 32 h.val).toNat = h.val := by rw [BitVec.toNat_ofNat]; omega
  have := clamp (w := BitVec.ofNat 32 h.val) (n := 12) (by omega) (by omega)
  show min (BitVec.ofNat 32 h.val).toInt.toNat (12 - 1) + 0 + 0 = h.val
  omega

/-- the pick's block, -/
theorem block_coord (hT : ∀ a, (T a).toNat < 64) :
    gd.start (ix6 0 h n s r e) (picks T) (2 : Fin 5) + gd.batchCoord (ix6 0 h n s r e) (2 : Fin 5)
    + gd.offCoord (ix6 0 h n s r e) (2 : Fin 5) = min (T (ix3 h n s)).toNat 63 := by
  rw [GatherDims.batchCoord_eq_zero _ _ _ List.not_mem_nil]
  unfold GatherDims.start GatherDims.offCoord
  rw [dif_pos (show (2 : Fin 5) ∈ gd.startIndexMap by decide), dif_neg (show ¬ (2 : Fin 5) ∈ gd.sKept by decide)]
  rw [show gd.siIdx (ix6 0 h n s r e) ⟨List.idxOf (2 : Fin 5) gd.startIndexMap, by decide⟩ = ix4 h n s 1 from by
    funext b; refine Fin.ext ?_; fin_cases b <;> rfl, picks_block T hT]
  have hw := hT (ix3 h n s)
  have := clamp (w := T (ix3 h n s)) (n := 64) (by omega) hw
  show min (T (ix3 h n s)).toInt.toNat (64 - 1) + 0 + 0 = min (T (ix3 h n s)).toNat 63
  omega

/-- the same row of the block, -/
theorem row_coord : gd.start (ix6 0 h n s r e) (picks T) (3 : Fin 5) + gd.batchCoord (ix6 0 h n s r e) (3 : Fin 5)
    + gd.offCoord (ix6 0 h n s r e) (3 : Fin 5) = r.val := by
  rw [GatherDims.batchCoord_eq_zero _ _ _ List.not_mem_nil]
  unfold GatherDims.start GatherDims.offCoord
  rw [dif_neg (show ¬ (3 : Fin 5) ∈ gd.startIndexMap by decide), dif_pos (show (3 : Fin 5) ∈ gd.sKept by decide)]
  have h4 : gd.offsetDims[List.idxOf (3 : Fin 5) gd.sKept]'(by decide) = (4 : Fin 6) := by decide
  rw [h4]
  show 0 + 0 + r.val = r.val
  omega

/-- and the same column. -/
theorem lane_coord : gd.start (ix6 0 h n s r e) (picks T) (4 : Fin 5) + gd.batchCoord (ix6 0 h n s r e) (4 : Fin 5)
    + gd.offCoord (ix6 0 h n s r e) (4 : Fin 5) = e.val := by
  rw [GatherDims.batchCoord_eq_zero _ _ _ List.not_mem_nil]
  unfold GatherDims.start GatherDims.offCoord
  rw [dif_neg (show ¬ (4 : Fin 5) ∈ gd.startIndexMap by decide), dif_pos (show (4 : Fin 5) ∈ gd.sKept by decide)]
  have h4 : gd.offsetDims[List.idxOf (4 : Fin 5) gd.sKept]'(by decide) = (5 : Fin 6) := by decide
  rw [h4]
  show 0 + 0 + e.val = e.val
  omega

end

/-- So a picked block is the named block of its head. -/
theorem blocks_at (x : FVec Ideal S1x12x4096x64 .f32) (T : IVec S12x64x8 32) (hT : ∀ a, (T a).toNat < 64)
    (h : Fin 12) (n : Fin 64) (s : Fin 8) (r e : Fin 64) :
    blocks x T (ix6 0 h n s r e)
      = shapeCast S1x12x64x64x64 x shapeCasts_S1x12x4096x64_S1x12x64x64x64 (ix5 0 h ⟨min (T (ix3 h n s)).toNat 63, by omega⟩ r e) := by
  unfold blocks Host.gather
  congr 1
  funext a
  refine Fin.ext ?_
  fin_cases a
  · exact unit_coord T h n s r e 0
  · exact head_coord T h n s r e
  · exact block_coord T h n s r e hT
  · exact row_coord T h n s r e
  · exact lane_coord T h n s r e

/-- And its rows are the rows that the table names. -/
theorem picked_at (x : FVec Ideal S1x12x4096x64 .f32) (T : IVec S12x64x8 32) (hT : ∀ a, (T a).toNat < 64)
    (h : Fin 12) (n : Fin 64) (p : Fin 512) (e : Fin 64) :
    picked x T (ix5 0 h n p e) = x (ix4 0 h (row T h n p) e) := by
  pointwise [picked, blocks_at x T hT]
  refine congrArg (fun r => x (ix4 0 h r e)) (Fin.ext ?_)
  exact congrArg (· + (p : ℕ) % 64) (Nat.mul_comm _ 64)

end Cert.ReferenceIdeal.Term

end
-- ==== Proof.RefValue.lean ====
module

public import proofs.«01_k».proof.Proof.RefTerm

@[expose] public section

/-!
One entry of the reference's result, from the entries of its stages.
-/

set_option maxRecDepth 16384

noncomputable section

namespace Cert.ReferenceIdeal.Term

open Idealize.ShloMosaic Idealize.ShloMosaic.TcCoe
open Cert.ReferenceIdeal Cert.ReferenceIdeal.Gen
open Cert.KernelIdeal.Tile (row)

/-- A score: the product of a query row and a picked key row, scaled. -/
theorem scores_at (q k : FVec Ideal S1x12x4096x64 .f32) (T : IVec S12x64x8 32) (hT : ∀ a, (T a).toNat < 64)
    (h : Fin 12) (n r : Fin 64) (p : Fin 512) :
    scores q k T (ix5 0 h n r p)
      = (∑ d : Fin 64, q (ix4 0 h ⟨64 * n + r, by omega⟩ d) * k (ix4 0 h (row T h n p) d)) * Ideal.ofBits .f32 0x3E000000#32 := by
  pointwise [scores, picked_at k T hT]
  refine congrArg (· * Ideal.ofBits .f32 0x3E000000#32) (Finset.sum_congr rfl fun d _ => ?_)
  refine congrArg (fun i : Fin 4096 => q (ix4 0 h i d) * k (ix4 0 h (row T h n p) d)) (Fin.ext ?_)
  exact congrArg (· + (r : ℕ)) (Nat.mul_comm _ 64)

/-- The largest of one or more real numbers, taken from minus infinity, is real. -/
theorem fold_real {α : Type} (f : α → EReal) (hf : ∀ i, ∃ y : ℝ, f i = y) :
    ∀ (l : List α) (a : EReal), (a = ⊥ ∨ ∃ y : ℝ, a = y) → (l ≠ [] ∨ ∃ y : ℝ, a = y) →
      ∃ y : ℝ, l.foldl (fun r n => max r (f n)) a = y
  | [], a, _, h => h.elim (fun h => absurd rfl h) id
  | b :: l, a, ha, _ => by
    have hb : ∃ y : ℝ, max a (f b) = y := by
      obtain ⟨y, hy⟩ := hf b
      rcases ha with rfl | ⟨z, rfl⟩
      · exact ⟨y, by rw [hy]; exact max_eq_right bot_le⟩
      · exact ⟨max z y, by rw [hy]; exact (EReal.coe_strictMono.monotone.map_max).symm⟩
    exact fold_real f hf l _ (.inr hb) (.inr hb)

/-- A maximum over an axis, from minus infinity, of real numbers is real, where at least one element reduces to the place. -/
theorem reduce_real {s t u : Shape} {axes : List (Fin s.rank)} (x : FVec Ideal s .f32) (init : FVec Ideal u .f32) (h : s.ReducesTo axes t)
    (hu : 0 < u.numel) (j : t.Idx) (i : s.Idx) (hi : h.drop i = j) (hx : ∀ i, ∃ y : ℝ, x i = (y : EReal))
    (h0 : init (Shape.Idx.first hu) = (⊥ : EReal)) :
    ∃ y : ℝ, Host.reduce FloatOps.maximumf x init h hu j = (y : EReal) := by
  refine fold_real (fun n => x (s.rowMajor.symm n)) (fun n => hx _) _ _ (.inl h0) (.inl ?_)
  refine List.ne_nil_of_mem (a := s.rowMajor i) (List.mem_filter.2 ⟨List.mem_finRange _, ?_⟩)
  simpa using hi

/-- The maximum of two arrays at an index. -/
theorem larger_at {s : Shape} (a b : FVec Ideal s .f32) (i : s.Idx) : maximumf a b i = max (a i : EReal) (b i) := rfl

/-- The starting word is minus infinity. -/
theorem minus_infinity : Ideal.ofBits .f32 0xFF800000#32 = ⊥ := by simp [Ideal.ofBits, Ideal.ieee]

/-- And so is the array it fills. -/
theorem floor_at (j : S1x12x64x64.Idx) :
    (broadcastInDim S1x12x64x64 ![] bcast_S_S1x12x64x64 (constant S_ .f32 0xFF800000#32 : FVec Ideal S_ .f32) j : EReal) = ⊥ := by
  pointwise [minus_infinity]

/-- Every score of a row reduces to that row. -/
theorem drop_row (h : Fin 12) (n r : Fin 64) (p : Fin 512) :
    reducesTo_S1x12x64x64x512_S1x12x64x64_d4.drop (ix5 0 h n r p) = ix4 0 h n r := by
  funext a
  refine Fin.ext ?_
  fin_cases a <;> rfl

/-- The largest of a row's real scores is real. -/
theorem peak_real (s : FVec Ideal S1x12x64x64x512 .f32) (hs : ∀ i, ∃ y : ℝ, s i = (y : EReal)) (h : Fin 12) (n r : Fin 64) :
    ∃ y : ℝ, peak s (ix4 0 h n r) = (y : EReal) := by
  obtain ⟨y, hy⟩ := reduce_real s (constant S_ .f32 0xFF800000#32) reducesTo_S1x12x64x64x512_S1x12x64x64_d4 h_S_ (ix4 0 h n r) (ix5 0 h n r 0)
    (drop_row h n r 0) hs minus_infinity
  refine ⟨y, ?_⟩
  unfold peak
  rw [larger_at, floor_at, hy]
  exact max_eq_right bot_le

/-- A row's number, read anywhere along the row. -/
theorem along_at (x : FVec Ideal S1x12x64x64 .f32) (h : Fin 12) (n r : Fin 64) (p : Fin 512) :
    along x (ix5 0 h n r p) = x (ix4 0 h n r) := by
  pointwise [along]

/-- An exponential of a score less the row's largest. -/
theorem powers_at (s : FVec Ideal S1x12x64x64x512 .f32) (h : Fin 12) (n r : Fin 64) (p : Fin 512) :
    powers s (ix5 0 h n r p) = Ideal.exp (s (ix5 0 h n r p) - peak s (ix4 0 h n r)) := by
  pointwise [powers, along_at]

/-- An exponential over the sum of its row. -/
theorem shares_at (s : FVec Ideal S1x12x64x64x512 .f32) (h : Fin 12) (n r : Fin 64) (p : Fin 512) :
    shares s (ix5 0 h n r p) = Ideal.div (powers s (ix5 0 h n r p)) (∑ l : Fin 512, powers s (ix5 0 h n r l)) := by
  pointwise [shares, along_at]

/-- An entry of the result is a sum over the picked rows. -/
theorem average_at (w : FVec Ideal S1x12x64x64x512 .f32) (y : FVec Ideal S1x12x64x512x64 .f32) (h : Fin 12) (r : Fin 4096) (e : Fin 64) :
    shapeCast S12x4096x64 (Host.dotGeneral dot_S1x12x64x64x512_S1x12x64x512x64_S1x12x64x64x64_4_3_3_4_012_012 none w y) shapeCasts_S1x12x64x64x64_S12x4096x64 (ix3 h r e)
      = ∑ p : Fin 512, w (ix5 0 h ⟨(r : ℕ) / 64, by omega⟩ ⟨(r : ℕ) % 64, by omega⟩ p) * y (ix5 0 h ⟨(r : ℕ) / 64, by omega⟩ p e) := by
  pointwise

/-- One entry of the result: with some real number for the row's largest score, the picked values averaged with the shares. -/
theorem result_at (q k v : FVec Ideal S1x12x4096x64 .f32) (T : IVec S12x64x8 32) (hT : ∀ a, (T a).toNat < 64)
    (hs : ∀ i, ∃ y : ℝ, scores q k T i = (y : EReal)) (h : Fin 12) (r : Fin 4096) (e : Fin 64) :
    ∃ M : ℝ, result q k v T (ix3 h r e)
      = ∑ p : Fin 512, Ideal.div (Ideal.exp (scores q k T (ix5 0 h ⟨(r : ℕ) / 64, by omega⟩ ⟨(r : ℕ) % 64, by omega⟩ p) - (M : EReal)))
          (∑ l : Fin 512, Ideal.exp (scores q k T (ix5 0 h ⟨(r : ℕ) / 64, by omega⟩ ⟨(r : ℕ) % 64, by omega⟩ l) - (M : EReal)))
        * v (ix4 0 h (row T h ⟨(r : ℕ) / 64, by omega⟩ p) e) := by
  obtain ⟨M, hM⟩ := peak_real (scores q k T) hs h ⟨(r : ℕ) / 64, by omega⟩ ⟨(r : ℕ) % 64, by omega⟩
  refine ⟨M, ?_⟩
  unfold result
  rw [average_at]
  simp only [shares_at, powers_at, hM, picked_at v T hT]

end Cert.ReferenceIdeal.Term

end
-- ==== Proof.Softmax.lean ====
module

public import Idealize.ShloMosaic.PureOps.Ideal
public import Mathlib.Tactic.Positivity
public import Mathlib.Tactic.FieldSimp

@[expose] public section

/-!
Averaging with the exponentials' shares is the average's one division: shifting every score by one real number changes no share,
and a positive real factor passes through a sum of extended reals.
-/

noncomputable section

namespace Cert.Softmax

open Idealize.ShloMosaic

/-- A sum of reals is the real sum. -/
theorem sum_real {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- A nonnegative real factor passes out of a sum of extended reals. -/
theorem sum_scaled {n : ℕ} (x : EReal) (h0 : 0 ≤ x) (h1 : x ≠ ⊤) (f : Fin n → EReal) : ∑ i, x * f i = x * ∑ i, f i := by
  induction n with
  | zero => simp
  | succ n ih => rw [Fin.sum_univ_succ, Fin.sum_univ_succ, ih, EReal.left_distrib_of_nonneg_of_ne_top h0 h1]

/-- The average with the shifted exponentials' shares is the plain exponentials' average. -/
theorem shares {n : ℕ} (S : Fin (n + 1) → ℝ) (M : ℝ) (v : Fin (n + 1) → EReal) :
    ∑ p, Ideal.div (Ideal.exp ((S p : EReal) - (M : EReal))) (∑ l, Ideal.exp ((S l : EReal) - (M : EReal))) * v p
      = Ideal.div (∑ p, Ideal.exp (S p : EReal) * v p) (∑ p, Ideal.exp (S p : EReal)) := by
  have hD : 0 < ∑ p, Real.exp (S p) := Finset.sum_pos (fun p _ => Real.exp_pos _) Finset.univ_nonempty
  have hE : ∑ p, Real.exp (S p - M) = (∑ p, Real.exp (S p)) * Real.exp (-M) := by
    rw [Finset.sum_mul]
    exact Finset.sum_congr rfl fun p _ => by rw [← Real.exp_add, sub_eq_add_neg]
  have hM : 0 < Real.exp (-M) := Real.exp_pos _
  simp only [← EReal.coe_sub, Ideal.exp_coe, sum_real]
  rw [Ideal.div_coe hD.ne']
  have hw : ∀ p, Ideal.div (Real.exp (S p - M) : EReal) ((∑ l, Real.exp (S l - M) : ℝ) : EReal)
      = ((1 / ∑ l, Real.exp (S l) : ℝ) : EReal) * (Real.exp (S p) : EReal) := by
    intro p
    rw [hE, Ideal.div_coe (by positivity), ← EReal.coe_mul, ← EReal.coe_mul]
    refine congrArg _ ?_
    rw [show S p - M = S p + -M from sub_eq_add_neg _ _, Real.exp_add]
    field_simp
  simp only [hw, mul_assoc]
  rw [sum_scaled _ (by exact_mod_cast (by positivity : (0 : ℝ) ≤ 1 / ∑ l, Real.exp (S l))) (EReal.coe_ne_top _), mul_comm]

/-- A constant factor of a sum of products of reals, taken into the first factors. -/
theorem scale_in {n : ℕ} (q k : Fin n → EReal) (c : ℝ) (hq : ∀ i, ∃ y : ℝ, q i = y) (hk : ∀ i, ∃ y : ℝ, k i = y) :
    ∃ y : ℝ, (∑ i, q i * k i) * (c : EReal) = y ∧ ∑ i, q i * (c : EReal) * k i = y := by
  choose a ha using hq
  choose b hb using hk
  refine ⟨(∑ i, a i * b i) * c, ?_, ?_⟩
  · simp only [ha, hb, ← EReal.coe_mul, sum_real]
  · simp only [ha, hb, ← EReal.coe_mul, sum_real]
    refine congrArg _ ?_
    rw [Finset.sum_mul]
    exact Finset.sum_congr rfl fun i _ => by ring

end Cert.Softmax

end
-- ==== Proof.Inputs.lean ====
module

public import proofs.«01_k».proof.Proof.Gen.KernelIdeal.Frame.Runs
public import Idealize.ShloMosaic.Lib.Pointwise
public import Idealize.ShloMosaic.Lib.Pipeline.ValueKit

@[expose] public section

/-!
What the host lines hand the launch: the queries scaled, the keys and the values as they are, each without the leading axis of one.
-/

set_option maxRecDepth 16384

noncomputable section

namespace Cert.KernelIdeal.Inputs

open Idealize.ShloMosaic Idealize.ShloMosaic.TcCoe
open Cert.KernelIdeal Cert.KernelIdeal.Gen

/-- The array without its leading axis of one, narrowed. -/
def plain (x : FVec Ideal S1x12x4096x64 .f32) : FVec Ideal S12x4096x64 .bf16 :=
  truncf .bf16 (shapeCast S12x4096x64 x shapeCasts_S1x12x4096x64_S12x4096x64) bitsLt_bf16_f32

/-- The same, each entry times an eighth. -/
def scaled (x : FVec Ideal S1x12x4096x64 .f32) : FVec Ideal S12x4096x64 .bf16 :=
  truncf .bf16 (mulf (shapeCast S12x4096x64 x shapeCasts_S1x12x4096x64_S12x4096x64)
    (broadcastInDim S12x4096x64 ![] bcast_S_S12x4096x64 (constant S_ .f32 0x3E000000#32))) bitsLt_bf16_f32

/-- It holds the same entries. -/
theorem plain_at (x : FVec Ideal S1x12x4096x64 .f32) (h : Fin 12) (r : Fin 4096) (e : Fin 64) :
    plain x (ix3 h r e) = x (ix4 0 h r e) := by
  pointwise [plain]

/-- It holds the scaled entries. -/
theorem scaled_at (x : FVec Ideal S1x12x4096x64 .f32) (h : Fin 12) (r : Fin 4096) (e : Fin 64) :
    scaled x (ix3 h r e) = x (ix4 0 h r e) * Ideal.ofBits .f32 0x3E000000#32 := by
  pointwise [scaled]

variable (m : (ℓ : Loc nD τ sig) → Buf (Elt Ideal) ℓ) (c : Dev nD)

/-- The launch's queries. -/
theorem queries : V m c main_v3 = scaled (m ((c : Thread nD τ).loc main_arg0)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

/-- The launch's keys. -/
theorem keys : V m c main_v5 = plain (m ((c : Thread nD τ).loc main_arg1)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

/-- The launch's values. -/
theorem values : V m c main_v7 = plain (m ((c : Thread nD τ).loc main_arg2)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  rfl

end Cert.KernelIdeal.Inputs

end
-- ==== Proof.Agree.lean ====
module

public import proofs.«01_k».proof.Proof.RefValue
public import proofs.«01_k».proof.Proof.Softmax
public import proofs.«01_k».proof.Proof.Inputs

@[expose] public section

/-!
The two computations agree: with real queries and keys, the launch's attention of the prepared arrays is the reference's result.
-/

set_option maxRecDepth 16384

noncomputable section

namespace Cert.Agree

open Idealize.ShloMosaic
open Cert.ReferenceIdeal (S1x12x4096x64 S12x64x8 S1x12x64x64x512)
open Cert.ReferenceIdeal.Term (scores scores_at result result_at)
open Cert.KernelIdeal.Tile (row attend attention)
open Cert.KernelIdeal.Inputs (plain scaled plain_at scaled_at)

/-- The scale's word is one eighth. -/
theorem eighth : Ideal.ofBits .f32 0x3E000000#32 = ((1 / 8 : ℝ) : EReal) := by
  simp [Ideal.ofBits, Ideal.ieee, -EReal.coe_mul]
  norm_num

variable (q k v : FVec Ideal S1x12x4096x64 .f32) (T : IVec S12x64x8 32)

section
variable (hT : ∀ a, (T a).toNat < 64) (hq : ∀ i, ∃ y : ℝ, q i = (y : EReal)) (hk : ∀ i, ∃ y : ℝ, k i = (y : EReal))
include hT hq hk

/-- A scaled score is a real number, and the launch's score is the same one. -/
theorem score (h : Fin 12) (n r : Fin 64) (p : Fin 512) :
    ∃ y : ℝ, scores q k T (ix5 0 h n r p) = (y : EReal)
      ∧ ∑ d : Fin 64, q (ix4 0 h ⟨64 * n + r, by omega⟩ d) * Ideal.ofBits .f32 0x3E000000#32 * k (ix4 0 h (row T h n p) d) = (y : EReal) := by
  rw [scores_at q k T hT, eighth]
  exact Softmax.scale_in (fun d => q (ix4 0 h ⟨64 * n + r, by omega⟩ d)) (fun d => k (ix4 0 h (row T h n p) d)) (1 / 8)
    (fun d => hq _) fun d => hk _

/-- Every scaled score is a real number. -/
theorem scores_real (i : S1x12x64x64x512.Idx) : ∃ y : ℝ, scores q k T i = (y : EReal) := by
  obtain ⟨y, hy, -⟩ := score q k T hT hq hk (i 1) (i 2) (i 3) (i 4)
  refine ⟨y, Eq.trans (congrArg (scores q k T) ?_) hy⟩
  funext a
  refine Fin.ext ?_
  have h0 : (i 0).val < 1 := (i 0).isLt
  fin_cases a
  · exact Nat.lt_one_iff.1 h0
  all_goals rfl

/-- Entry by entry the launch and the reference agree. -/
theorem entry (h : Fin 12) (r : Fin 4096) (e : Fin 64) :
    attention (scaled q) (plain k) (plain v) T (ix3 h r e) = result q k v T (ix3 h r e) := by
  obtain ⟨M, hM⟩ := result_at q k v T hT (scores_real q k T hT hq hk) h r e
  choose S hS hS' using fun p : Fin 512 => score q k T hT hq hk h ⟨(r : ℕ) / 64, by omega⟩ ⟨(r : ℕ) % 64, by omega⟩ p
  rw [hM]
  simp only [hS]
  refine Eq.trans ?_ (Softmax.shares S M fun p => v (ix4 0 h (row T h ⟨(r : ℕ) / 64, by omega⟩ p) e)).symm
  have er : (⟨64 * ((r : ℕ) / 64) + (r : ℕ) % 64, by omega⟩ : Fin 4096) = r := Fin.ext (Nat.div_add_mod _ _)
  have hs : ∀ p, ∑ d : Fin 64, scaled q (ix3 h r d) * plain k (ix3 h (row T h ⟨(r : ℕ) / 64, by omega⟩ p) d) = (S p : EReal) := by
    intro p
    rw [← hS' p]
    simp only [scaled_at, plain_at, er]
  show attend (fun d => scaled q (ix3 h r d)) (fun p d => plain k (ix3 h (row T h ⟨(r : ℕ) / 64, _⟩ p) d))
    (fun p => plain v (ix3 h (row T h ⟨(r : ℕ) / 64, _⟩ p) e)) = _
  unfold attend
  simp only [hs]
  simp only [plain_at]

/-- So the whole arrays are equal. -/
theorem arrays : attention (scaled q) (plain k) (plain v) T = result q k v T := by
  funext i
  rw [ValueIdx.eq_ix3 i]
  exact entry q k v T hT hq hk _ _ _

end

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_blocks_in_range
public import proofs.«01_k».proof.Proof.Gen.Pre_finite_scores_in_range
public import proofs.«01_k».proof.Proof.Hyps
public import proofs.«01_k».proof.Proof.HypsBits
public import proofs.«01_k».proof.Proof.KernelValue
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

section
attribute [local instance] Cert.Kernel.Gen.facts Cert.KernelIdeal.Gen.facts Cert.ReferenceIdeal.Gen.facts
  Cert.Pre_blocks_in_range.Gen.facts Cert.Pre_finite_scores_in_range.Gen.facts

/-- The kernel runs, leaves its arguments alone and ends with every counter at zero. -/
theorem kernel_quiet : Cert.quiescent_Kernel := fun m g h =>
  Cert.Kernel.Gen.frame m g (Cert.Kernel.Sel.ok m) (Cert.Kernel.Sel.hyps m _ fun i => Cert.Range.blocks_of_range _ _ _ _ (h 0) i)

/-- So does its ideal reading, -/
theorem ideal_quiet : Cert.quiescent_KernelIdeal := fun m g h =>
  Cert.KernelIdeal.Gen.frame m g (Cert.KernelIdeal.Sel.ok m)
    (Cert.KernelIdeal.Sel.hyps m _ fun i => Cert.Range.blocks_of_range _ _ _ _ (h 0) i)

/-- also under the stronger precondition. -/
theorem ideal_quiet_finite : Cert.quiescent_KernelIdeal_pre_finite_scores_in_range := fun m g h =>
  Cert.KernelIdeal.Gen.frame m g (Cert.KernelIdeal.Sel.ok m)
    (Cert.KernelIdeal.Sel.hyps m _ fun i => Cert.Range.blocks_of_finite _ _ _ _ (h 0) i)

/-- The reference runs and leaves its arguments alone; it has no semaphore, so every counter ends at zero. -/
theorem reference_quiet : Cert.quiescent_ReferenceIdeal := fun m g _ =>
  (θ_run (Cert.ReferenceIdeal.defs (F := Ideal)) _ _).mono
    (fun r h => And.intro (fun c => (h c).2) (sem_eq_zero_of_no_sems (by decide) r.2)) (Cert.ReferenceIdeal.Value.run m g)

/-- The reference does so under any precondition. -/
theorem reference_quiet_finite : Cert.quiescent_ReferenceIdeal_pre_finite_scores_in_range := fun m g _ => reference_quiet m g trivial

/-- Kernel and reference leave the same array. -/
theorem values : Cert.algebraic_KernelIdeal_ReferenceIdeal_pre_finite_scores_in_range := by
  intro m g m' g' hp hm
  have hO := Cert.KernelIdeal.Sel.ok m
  have hR := fun i => Cert.Range.blocks_of_finite _ _ _ _ (hp 0) i
  have hF := fun i => Cert.Range.real_of_finite _ _ _ _ (hp 0) i
  have hT := Cert.KernelIdeal.Sel.word_lt m hR
  have hH := Cert.KernelIdeal.Sel.hyps m hO hR
  refine ⟨fun c => Cert.ReferenceIdeal.Value.res_main_v68 m' c, ?_, ?_⟩
  · refine (θ_run (Cert.KernelIdeal.defs (F := Ideal)) _ _).mono (fun r h c => ⟨?_, h.2 c⟩)
      (θ_run_and (Cert.KernelIdeal.Gen.run_main m g hO hH) (Cert.KernelIdeal.Gen.unchanged m g hO hH))
    obtain rfl : c = 0 := Subsingleton.elim _ _
    refine ((h.1 0).1 3).trans ((Cert.KernelIdeal.Tile.final m hO hH hT 0).trans ?_)
    rw [Cert.KernelIdeal.Inputs.queries, Cert.KernelIdeal.Inputs.keys, Cert.KernelIdeal.Inputs.values]
    refine (Cert.Agree.arrays _ _ _ _ hT (fun i => (hF i).1) fun i => (hF i).2).trans ?_
    refine (congrArg (Cert.ReferenceIdeal.Term.result _ _ _) (Cert.KernelIdeal.Sel.tbl_eq m)).trans
      (Eq.trans ?_ (Cert.ReferenceIdeal.Term.res_eq m' 0).symm)
    rw [(hm 0).1, (hm 0).2.1, (hm 0).2.2.1, (hm 0).2.2.2]
    rfl
  · exact Cert.ReferenceIdeal.Value.run m' g'
end

/-- All of it. -/
theorem claim : Cert.Claim :=
  ⟨Cert.Kernel.Gen.facts, Cert.KernelIdeal.Gen.facts, Cert.ReferenceIdeal.Gen.facts, Cert.Pre_blocks_in_range.Gen.facts,
    Cert.Pre_finite_scores_in_range.Gen.facts, kernel_quiet, ideal_quiet, ideal_quiet_finite, reference_quiet,
    reference_quiet_finite, trivial, values⟩

end Cert.Proof

end
